-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S256x1x4096 : Shape := ⟨3, ![256, 1, 4096]⟩
abbrev S512x7168 : Shape := ⟨2, ![512, 7168]⟩
abbrev S32x7168 : Shape := ⟨2, ![32, 7168]⟩
abbrev S16x7168 : Shape := ⟨2, ![16, 7168]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S256x1x4096 .bf16) (main_arg1 : IVec S512x7168 32) (main_arg2 : FVec F S32x7168 .bf16) (main_arg3 : IVec S16x7168 8) (main_arg4 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg4 main_v0
  let main_c_0 : IVec S_ 32 := constantI S_ 32 32#32
  let main_v2 : IVec S4096 32 := broadcastInDim S4096 ![] bcast_S_S4096 main_c_0
  let main_v3 : IVec S4096 1 := cmpi .slt main_arg4 main_v2
  let main_v4 : IVec S4096 1 := andi main_v1 main_v3
  main_v4
-- ==== Kernel.lean ====
abbrev S256x1x4096 : Shape := ⟨3, ![256, 1, 4096]⟩
abbrev S512x7168 : Shape := ⟨2, ![512, 7168]⟩
abbrev S32x7168 : Shape := ⟨2, ![32, 7168]⟩
abbrev S16x7168 : Shape := ⟨2, ![16, 7168]⟩
abbrev S4096 : Shape := ⟨1, ![4096]⟩
abbrev S256x4096 : Shape := ⟨2, ![256, 4096]⟩
abbrev S32x128 : Shape := ⟨2, ![32, 128]⟩
abbrev S256x7168 : Shape := ⟨2, ![256, 7168]⟩
abbrev S512x512 : Shape := ⟨2, ![512, 512]⟩
abbrev S32x512 : Shape := ⟨2, ![32, 512]⟩
abbrev S16x512 : Shape := ⟨2, ![16, 512]⟩
abbrev S256x512 : Shape := ⟨2, ![256, 512]⟩
abbrev S4096x128 : Shape := ⟨2, ![4096, 128]⟩
abbrev S1x128 : Shape := ⟨2, ![1, 128]⟩
abbrev S128x128 : Shape := ⟨2, ![128, 128]⟩
abbrev S8x8x128 : Shape := ⟨3, ![8, 8, 128]⟩
abbrev S16x128 : Shape := ⟨2, ![16, 128]⟩
abbrev S8x128 : Shape := ⟨2, ![8, 128]⟩
abbrev S8x1x128 : Shape := ⟨3, ![8, 1, 128]⟩
abbrev S64x128 : Shape := ⟨2, ![64, 128]⟩
abbrev S32x128x1 : Shape := ⟨3, ![32, 128, 1]⟩
abbrev S16x128x1 : Shape := ⟨3, ![16, 128, 1]⟩
abbrev S256x128 : Shape := ⟨2, ![256, 128]⟩
abbrev S256x256 : Shape := ⟨2, ![256, 256]⟩

abbrev nBuf : Space → Nat
  | .hbm => 8
  | .vmem => 12
  | .smem => 0
  | _ => 0

abbrev bufTy : (tb : Table) → Fin (tcTables nBuf tb) → BufTy
  | .hbm, ⟨0, _⟩ => ⟨S256x1x4096, .bf16⟩
  | .hbm, ⟨1, _⟩ => ⟨S512x7168, .i32⟩
  | .hbm, ⟨2, _⟩ => ⟨S32x7168, .bf16⟩
  | .hbm, ⟨3, _⟩ => ⟨S16x7168, .i8⟩
  | .hbm, ⟨4, _⟩ => ⟨S4096, .i32⟩
  | .hbm, ⟨5, _⟩ => ⟨S256x4096, .bf16⟩
  | .hbm, ⟨6, _⟩ => ⟨S32x128, .i32⟩
  | .hbm, ⟨7, _⟩ => ⟨S256x7168, .bf16⟩
  | .local _ .vmem, ⟨0, _⟩ => ⟨S256x4096, .bf16⟩
  | .local _ .vmem, ⟨1, _⟩ => ⟨S512x512, .i32⟩
  | .local _ .vmem, ⟨2, _⟩ => ⟨S512x512, .i32⟩
  | .local _ .vmem, ⟨3, _⟩ => ⟨S32x512, .bf16⟩
  | .local _ .vmem, ⟨4, _⟩ => ⟨S32x512, .bf16⟩
  | .local _ .vmem, ⟨5, _⟩ => ⟨S16x512, .i8⟩
  | .local _ .vmem, ⟨6, _⟩ => ⟨S16x512, .i8⟩
  | .local _ .vmem, ⟨7, _⟩ => ⟨S32x128, .i32⟩
  | .local _ .vmem, ⟨8, _⟩ => ⟨S256x512, .bf16⟩
  | .local _ .vmem, ⟨9, _⟩ => ⟨S256x512, .bf16⟩
  | .local _ .vmem, ⟨10, _⟩ => ⟨S4096x128, .i8⟩
  | .local _ .vmem, ⟨11, _⟩ => ⟨S4096x128, .i16⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x1x4096 : Shape := ⟨3, ![256, 1, 4096]⟩
abbrev S512x7168 : Shape := ⟨2, ![512, 7168]⟩
abbrev S32x7168 : Shape := ⟨2, ![32, 7168]⟩
abbrev S16x7168 : Shape := ⟨2, ![16, 7168]⟩
abbrev S4096 : Shape := ⟨1, ![4096]⟩
abbrev S_ : Shape := ⟨0, ![]⟩
abbrev S4096x1 : Shape := ⟨2, ![4096, 1]⟩
abbrev S32 : Shape := ⟨1, ![32]⟩
abbrev S1x32 : Shape := ⟨2, ![1, 32]⟩
abbrev S4096x32 : Shape := ⟨2, ![4096, 32]⟩
abbrev S32x14336 : Shape := ⟨2, ![32, 14336]⟩
abbrev S4096x14336 : Shape := ⟨2, ![4096, 14336]⟩
abbrev S4096x7168 : Shape := ⟨2, ![4096, 7168]⟩
abbrev S512x8x7168 : Shape := ⟨3, ![512, 8, 7168]⟩
abbrev S8 : Shape := ⟨1, ![8]⟩
abbrev S1x8x1 : Shape := ⟨3, ![1, 8, 1]⟩
abbrev S512x1x7168 : Shape := ⟨3, ![512, 1, 7168]⟩
abbrev S256x4096 : Shape := ⟨2, ![256, 4096]⟩
abbrev S256x7168 : Shape := ⟨2, ![256, 7168]⟩

abbrev nBuf : Space → Nat
  | .hbm => 47
  | .vmem => 0
  | .smem => 0
  | _ => 0

abbrev bufTy : (tb : Table) → Fin (tcTables nBuf tb) → BufTy
  | .hbm, ⟨0, _⟩ => ⟨S256x1x4096, .bf16⟩
  | .hbm, ⟨1, _⟩ => ⟨S512x7168, .i32⟩
  | .hbm, ⟨2, _⟩ => ⟨S32x7168, .bf16⟩
  | .hbm, ⟨3, _⟩ => ⟨S16x7168, .i8⟩
  | .hbm, ⟨4, _⟩ => ⟨S4096, .i32⟩
  | .hbm, ⟨5, _⟩ => ⟨S16x7168, .i32⟩
  | .hbm, ⟨6, _⟩ => ⟨S_, .i32⟩
  | .hbm, ⟨7, _⟩ => ⟨S16x7168, .i32⟩
  | .hbm, ⟨8, _⟩ => ⟨S16x7168, .i32⟩
  | .hbm, ⟨9, _⟩ => ⟨S_, .i32⟩
  | .hbm, ⟨10, _⟩ => ⟨S16x7168, .i32⟩
  | .hbm, ⟨11, _⟩ => ⟨S16x7168, .i32⟩
  | .hbm, ⟨12, _⟩ => ⟨S32x7168, .i32⟩
  | .hbm, ⟨13, _⟩ => ⟨S32x7168, .bf16⟩
  | .hbm, ⟨14, _⟩ => ⟨S4096x1, .i32⟩
  | .hbm, ⟨15, _⟩ => ⟨S32, .i32⟩
  | .hbm, ⟨16, _⟩ => ⟨S1x32, .i32⟩
  | .hbm, ⟨17, _⟩ => ⟨S4096x32, .i32⟩
  | .hbm, ⟨18, _⟩ => ⟨S4096x32, .i32⟩
  | .hbm, ⟨19, _⟩ => ⟨S4096x32, .i1⟩
  | .hbm, ⟨20, _⟩ => ⟨S4096x32, .bf16⟩
  | .hbm, ⟨21, _⟩ => ⟨S32x14336, .bf16⟩
  | .hbm, ⟨22, _⟩ => ⟨S4096x14336, .f32⟩
  | .hbm, ⟨23, _⟩ => ⟨S4096x14336, .bf16⟩
  | .hbm, ⟨24, _⟩ => ⟨S4096x7168, .bf16⟩
  | .hbm, ⟨25, _⟩ => ⟨S512x8x7168, .bf16⟩
  | .hbm, ⟨26, _⟩ => ⟨S4096x7168, .bf16⟩
  | .hbm, ⟨27, _⟩ => ⟨S512x8x7168, .bf16⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S1x8x1, .i32⟩
  | .hbm, ⟨33, _⟩ => ⟨S512x1x7168, .i32⟩
  | .hbm, ⟨34, _⟩ => ⟨S512x8x7168, .i32⟩
  | .hbm, ⟨35, _⟩ => ⟨S512x8x7168, .i32⟩
  | .hbm, ⟨36, _⟩ => ⟨S512x8x7168, .i32⟩
  | .hbm, ⟨37, _⟩ => ⟨S_, .i32⟩
  | .hbm, ⟨38, _⟩ => ⟨S512x8x7168, .i32⟩
  | .hbm, ⟨39, _⟩ => ⟨S512x8x7168, .i32⟩
  | .hbm, ⟨40, _⟩ => ⟨S512x8x7168, .bf16⟩
  | .hbm, ⟨41, _⟩ => ⟨S512x8x7168, .bf16⟩
  | .hbm, ⟨42, _⟩ => ⟨S512x8x7168, .bf16⟩
  | .hbm, ⟨43, _⟩ => ⟨S4096x7168, .bf16⟩
  | .hbm, ⟨44, _⟩ => ⟨S256x4096, .bf16⟩
  | .hbm, ⟨45, _⟩ => ⟨S256x7168, .f32⟩
  | .hbm, ⟨46, _⟩ => ⟨S256x7168, .bf16⟩
  | _, _ => ⟨S256x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.Blocks.lean ====
/- The blocks the grid's points read: point `t` reads all of `x` and of the groups, reshaped by the host, and columns `512 t` to `512 t + 511` of the
   packed weights, the scales and the packed zero points. -/
module

public import proofs.«01_k».proof.Proof.Gen.KernelIdeal.Frame
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The arguments on core `c`. -/
abbrev argX (c : Dev nD) : Vec F S256x1x4096 .bf16 := m ((c : Thread nD τ).loc main_arg0)
abbrev argQ (c : Dev nD) : Vec F S512x7168 .i32 := m ((c : Thread nD τ).loc main_arg1)
abbrev argS (c : Dev nD) : Vec F S32x7168 .bf16 := m ((c : Thread nD τ).loc main_arg2)
abbrev argZ (c : Dev nD) : Vec F S16x7168 .i8 := m ((c : Thread nD τ).loc main_arg3)
abbrev argG (c : Dev nD) : Vec F S4096 .i32 := m ((c : Thread nD τ).loc main_arg4)

/-- The region finds `x` flattened to a matrix. -/
theorem V_x (c : Dev nD) : V m c main_v0 = shapeCast S256x4096 (argX m c) shapeCasts_S256x1x4096_S256x4096 := by
  show StableHlo.after hostOps0 (fun b => m (c, b)) (Proc.devRef .tc main_v0) = _
  simp only [StableHlo.after_cons, StableHlo.after_nil]
  rw [StableHlo.reshape_result_ne _ _ _ _ _ (by decide), StableHlo.reshape_result]
  · rfl
  · decide

/-- The region finds the groups as 32 rows of 128. -/
theorem V_g (c : Dev nD) : V m c main_v1 = shapeCast S32x128 (argG m c) shapeCasts_S4096_S32x128 := by
  show StableHlo.after hostOps0 (fun b => m (c, b)) (Proc.devRef .tc main_v1) = _
  simp only [StableHlo.after_cons, StableHlo.after_nil]
  rw [StableHlo.reshape_result, StableHlo.reshape_result_ne _ _ _ _ _ (by decide)]
  · rfl
  · decide

/-- Which block of each array a point reads. -/
theorem index_facts : ∀ t : Fin cfg0.N,
    (win0_0.index t 0 = 0 ∧ win0_0.index t 1 = 0) ∧ (win0_1.index t 0 = 0 ∧ win0_1.index t 1 = t.val)
      ∧ (win0_2.index t 0 = 0 ∧ win0_2.index t 1 = t.val) ∧ (win0_3.index t 0 = 0 ∧ win0_3.index t 1 = t.val)
      ∧ (win0_4.index t 0 = 0 ∧ win0_4.index t 1 = 0) := by decide +kernel

theorem points (t : Fin cfg0.N) : t.val < 14 := t.isLt

variable (c : Dev nD) (t : Fin cfg0.N)

/-! An entry of each block. -/

theorem iblk0_apply (r : Fin 256) (k : Fin 4096) :
    iblk m c 0 t (ix2 r k) = argX m c (ix3 r 0 k) := by
  have e : iblk m c 0 t (ix2 r k) = V m c main_v0 (ix2 r k) := by
    unfold iblk
    rw [View.read_apply]
    refine congrArg (V m c main_v0) (funext fun a => Fin.ext ?_)
    match a with
    | ⟨0, _⟩ => show win0_0.index t 0 * 256 + 1 * r.val = r.val; rw [(index_facts t).1.1]; omega
    | ⟨1, _⟩ => show win0_0.index t 1 * 4096 + 1 * k.val = k.val; rw [(index_facts t).1.2]; omega
  rw [e, V_x]
  pointwise

theorem iblk1_apply (r o : Fin 512) :
    iblk m c 1 t (ix2 r o) = argQ m c (ix2 r ⟨512 * t.val + o.val, by have := points t; omega⟩) := by
  have e : iblk m c 1 t (ix2 r o) = V m c main_arg1 (ix2 r ⟨512 * t.val + o.val, by have := points t; omega⟩) := by
    unfold iblk
    rw [View.read_apply]
    refine congrArg (V m c main_arg1) (funext fun a => Fin.ext ?_)
    match a with
    | ⟨0, _⟩ => show win0_1.index t 0 * 512 + 1 * r.val = r.val; rw [(index_facts t).2.1.1]; omega
    | ⟨1, _⟩ => show win0_1.index t 1 * 512 + 1 * o.val = 512 * t.val + o.val; rw [(index_facts t).2.1.2]; omega
  rw [e, V_main_arg1]

theorem iblk2_apply (r : Fin 32) (o : Fin 512) :
    iblk m c 2 t (ix2 r o) = argS m c (ix2 r ⟨512 * t.val + o.val, by have := points t; omega⟩) := by
  have e : iblk m c 2 t (ix2 r o) = V m c main_arg2 (ix2 r ⟨512 * t.val + o.val, by have := points t; omega⟩) := by
    unfold iblk
    rw [View.read_apply]
    refine congrArg (V m c main_arg2) (funext fun a => Fin.ext ?_)
    match a with
    | ⟨0, _⟩ => show win0_2.index t 0 * 32 + 1 * r.val = r.val; rw [(index_facts t).2.2.1.1]; omega
    | ⟨1, _⟩ => show win0_2.index t 1 * 512 + 1 * o.val = 512 * t.val + o.val; rw [(index_facts t).2.2.1.2]; omega
  rw [e, V_main_arg2]

theorem iblk3_apply (r : Fin 16) (o : Fin 512) :
    iblk m c 3 t (ix2 r o) = argZ m c (ix2 r ⟨512 * t.val + o.val, by have := points t; omega⟩) := by
  have e : iblk m c 3 t (ix2 r o) = V m c main_arg3 (ix2 r ⟨512 * t.val + o.val, by have := points t; omega⟩) := by
    unfold iblk
    rw [View.read_apply]
    refine congrArg (V m c main_arg3) (funext fun a => Fin.ext ?_)
    match a with
    | ⟨0, _⟩ => show win0_3.index t 0 * 16 + 1 * r.val = r.val; rw [(index_facts t).2.2.2.1.1]; omega
    | ⟨1, _⟩ => show win0_3.index t 1 * 512 + 1 * o.val = 512 * t.val + o.val; rw [(index_facts t).2.2.2.1.2]; omega
  rw [e, V_main_arg3]

theorem iblk4_apply (r : Fin 32) (l : Fin 128) :
    iblk m c 4 t (ix2 r l) = argG m c (ix1 ⟨128 * r.val + l.val, by omega⟩) := by
  have e : iblk m c 4 t (ix2 r l) = V m c main_v1 (ix2 r l) := by
    unfold iblk
    rw [View.read_apply]
    refine congrArg (V m c main_v1) (funext fun a => Fin.ext ?_)
    match a with
    | ⟨0, _⟩ => show win0_4.index t 0 * 32 + 1 * r.val = r.val; rw [(index_facts t).2.2.2.2.1]; omega
    | ⟨1, _⟩ => show win0_4.index t 1 * 128 + 1 * l.val = l.val; rw [(index_facts t).2.2.2.2.2]; omega
  rw [e, V_g]
  pointwise
  simp only [Nat.mul_comm]

end Cert.Proof
end
-- ==== Proof.Fill.lean ====
/- What the first point leaves in the two scratch buffers: row `k` of the first holds the group of row `k` as a byte in every lane, row `k` of the
   second the same group in both halves of 16 bits. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof

open Idealize.ShloMosaic Idealize.SL.Sem Cert.KernelIdeal Cert.KernelIdeal.Gen

variable {F : FTy → Type} [FloatOps F]

/-- A row of 128 groups stood upright: lane `l` of row `i` is group `i`, for every `l`. -/
def upright (v : Vec F S1x128 .i32) : IVec S128x128 32 :=
  transpose S128x128 [1, 0] (broadcastTo S128x128 (shapeCast S1x128 (shapeCast S1x128 v shapeCasts_S1x128_S1x128) shapeCasts_S1x128_S1x128)
    broadcasts_S1x128_S128x128) transposes_S128x128_p1_0_S128x128

/-- … as bytes. -/
def upright8 (v : Vec F S1x128 .i32) : IVec S128x128 8 :=
  shapeCast S128x128 (trunci 8 (upright v) natLt_8_32) shapeCasts_S128x128_S128x128

/-- … doubled in 16 bits. -/
def upright16 (v : Vec F S1x128 .i32) : IVec S128x128 16 :=
  shapeCast S128x128 (trunci 16 (ori (upright v) (shli (upright v) (broadcast S128x128 8#32))) natLt_16_32) shapeCasts_S128x128_S128x128

theorem upright8_apply (v : Vec F S1x128 .i32) (i l : Fin 128) : upright8 v (ix2 i l) = (v (ix2 0 i)).setWidth 8 := by
  unfold upright8 upright
  pointwise

theorem upright16_apply (v : Vec F S1x128 .i32) (i l : Fin 128) :
    upright16 v (ix2 i l) = (IntOp.ori (v (ix2 0 i)) (IntOp.shli .vector (v (ix2 0 i)) 8#32)).setWidth 16 := by
  unfold upright16 upright
  pointwise

section Run
variable (c : Dev nD) (i : grid0.Coords)
    (arg1 : Memref sig .tc .vmem S256x4096 .bf16) (harg1 : arg1.IsWhole) (arg2 : Memref sig .tc .vmem S512x512 .i32) (harg2 : arg2.IsWhole)
    (arg3 : Memref sig .tc .vmem S32x512 .bf16) (harg3 : arg3.IsWhole) (arg4 : Memref sig .tc .vmem S16x512 .i8) (harg4 : arg4.IsWhole)
    (arg5 : Memref sig .tc .vmem S32x128 .i32) (harg5 : arg5.IsWhole) (arg6 : Memref sig .tc .vmem S256x512 .bf16) (harg6 : arg6.IsWhole)
    (arg7 : Memref sig .tc .vmem S4096x128 .i8) (harg7 : arg7.IsWhole) (arg8 : Memref sig .tc .vmem S4096x128 .i16) (harg8 : arg8.IsWhole)
    (hc0 : cond0_0 i)
    (x0 : Vec F S256x4096 .bf16) (x1 : Vec F S512x512 .i32) (x2 : Vec F S32x512 .bf16) (x3 : Vec F S16x512 .i8) (x4 : Vec F S32x128 .i32)

theorem row_inb (r : Fin 32) : ∀ a, (![r.val, 0] : Fin 2 → ℕ) a + S1x128.size a ≤ S32x128.size a := by revert r; decide +kernel
theorem rows_inb (r : Fin 32) : ∀ a, (![128 * r.val, 0] : Fin 2 → ℕ) a + S128x128.size a ≤ S4096x128.size a := by revert r; decide +kernel

/-- Row `r` of the groups, as the kernel loads it. -/
def loadRow (r : Fin 32) : Vec F S1x128 .i32 :=
  View.readAt (Elt F) arg5.view (Rect.unit (s := S32x128) ![r.val, 0] S1x128.size (row_inb r)).toLoadRect (harg5.unread x4)

theorem loadRow_apply (r : Fin 32) (l : Fin 128) : loadRow arg5 harg5 x4 r (ix2 0 l) = x4 (ix2 r l) := by
  unfold loadRow
  rw [View.readAt_apply, harg5.read_unread]
  congr 1
  funext a
  match a with
  | ⟨0, _⟩ => exact Fin.ext (by simp [Rect.unit])
  | ⟨1, _⟩ => exact Fin.ext (by simp [Rect.unit])

/-- The stores of the first scratch buffer: 128 rows for each row of groups. -/
theorem fill8 : (kernelRun0_A c i arg1 harg1 arg2 harg2 arg3 harg3 arg4 harg4 arg5 harg5 arg6 harg6 arg7 harg7 arg8 harg8 hc0 x0 x1 x2 x3 x4).2.1
    = List.ofFn fun n : Fin 32 => (⟨Rect.unit (s := S4096x128) ![128 * (31 - n.val), 0] S128x128.size (rows_inb ⟨31 - n.val, by omega⟩),
        upright8 (loadRow arg5 harg5 x4 ⟨31 - n.val, by omega⟩)⟩ : View.Piece (Elt F) S4096x128 .i8) := rfl

/-- The stores of the second. -/
theorem fill16 : (kernelRun0_A c i arg1 harg1 arg2 harg2 arg3 harg3 arg4 harg4 arg5 harg5 arg6 harg6 arg7 harg7 arg8 harg8 hc0 x0 x1 x2 x3 x4).2.2.1
    = List.ofFn fun n : Fin 32 => (⟨Rect.unit (s := S4096x128) ![128 * (31 - n.val), 0] S128x128.size (rows_inb ⟨31 - n.val, by omega⟩),
        upright16 (loadRow arg5 harg5 x4 ⟨31 - n.val, by omega⟩)⟩ : View.Piece (Elt F) S4096x128 .i16) := rfl

/-- 32 stores of 128 rows each, read at a row: the store of the row, at the row's place in it. -/
theorem read_fill {e : EltTy} (v : View sig .tc .vmem S4096x128 e) (f : v.ty.Contents (Elt F)) (u : Fin 32 → S128x128.Idx → Elt F e)
    (k : Fin 4096) (l : Fin 128) :
    v.read (Elt F) (v.writes (Elt F) f (List.ofFn fun n : Fin 32 =>
      (⟨Rect.unit (s := S4096x128) ![128 * (31 - n.val), 0] S128x128.size (rows_inb ⟨31 - n.val, by omega⟩), u ⟨31 - n.val, by omega⟩⟩
        : View.Piece (Elt F) S4096x128 e))) (ix2 k l)
      = u ⟨k.val / 128, by omega⟩ (ix2 ⟨k.val % 128, by omega⟩ l) := by
  let G : S4096x128.Idx → Elt F e := fun y => u ⟨(y 0).val / 128, by have := (y 0).isLt; change (y 0).val < 4096 at this; omega⟩
    (ix2 ⟨(y 0).val % 128, Nat.mod_lt _ (by decide)⟩ (⟨(y 1).val, (y 1).isLt⟩ : Fin 128))
  refine View.read_writes_apply_of_pieces v f G _ ?_ (ix2 k l) ?_
  · intro p hp x
    obtain ⟨n, rfl⟩ := (List.mem_ofFn' _ _).1 hp
    simp only [G]
    have h0 : ((Rect.unit (s := S4096x128) ![128 * (31 - n.val), 0] S128x128.size (rows_inb ⟨31 - n.val, by omega⟩)).emb x 0).val
        = 128 * (31 - n.val) + (x 0).val := Rect.idx_unit_val _ _ _ x 0
    have h1 : ((Rect.unit (s := S4096x128) ![128 * (31 - n.val), 0] S128x128.size (rows_inb ⟨31 - n.val, by omega⟩)).emb x 1).val
        = (x 1).val := (Rect.idx_unit_val _ _ _ x 1).trans (Nat.zero_add _)
    have hx : (x 0).val < 128 := (x 0).isLt
    have q : (128 * (31 - n.val) + (x 0).val) / 128 = 31 - n.val := by omega
    have r : (128 * (31 - n.val) + (x 0).val) % 128 = (x 0).val := by omega
    simp only [h0, h1, q, r]
    congr 1
    funext a
    match a with
    | ⟨0, _⟩ => rfl
    | ⟨1, _⟩ => rfl
  · refine ⟨_, (List.mem_ofFn' _ _).2 ⟨⟨31 - k.val / 128, by omega⟩, rfl⟩, ?_⟩
    refine (Rect.mem_set_unit (inb := rows_inb ⟨31 - (31 - k.val / 128), by omega⟩)).2 fun a => ?_
    match a with
    | ⟨0, _⟩ => show 128 * (31 - (31 - k.val / 128)) ≤ k.val ∧ k.val < 128 * (31 - (31 - k.val / 128)) + 128; omega
    | ⟨1, _⟩ => show 0 ≤ l.val ∧ l.val < 0 + 128; omega

/-- A group as a byte, and doubled in 16 bits. -/
theorem group_words (g : Fin 32) : (BitVec.ofNat 32 g.val).setWidth 8 = BitVec.ofNat 8 g.val
    ∧ (IntOp.ori (BitVec.ofNat 32 g.val) (IntOp.shli .vector (BitVec.ofNat 32 g.val) 8#32)).setWidth 16 = BitVec.ofNat 16 (257 * g.val) := by
  revert g; decide +kernel

/-- Row `k` of the first scratch buffer after these stores: the group of row `k`, as a byte. -/
theorem fill8_apply (v : View sig .tc .vmem S4096x128 .i8) (f : v.ty.Contents (Elt F)) (G : Fin 4096 → Fin 32)
    (hG : ∀ (r : Fin 32) (l : Fin 128), x4 (ix2 r l) = BitVec.ofNat 32 (G ⟨128 * r.val + l.val, by omega⟩).val) (k : Fin 4096) (l : Fin 128) :
    v.read (Elt F) (v.writes (Elt F) f (kernelRun0_A c i arg1 harg1 arg2 harg2 arg3 harg3 arg4 harg4 arg5 harg5 arg6 harg6 arg7 harg7 arg8 harg8 hc0 x0 x1 x2 x3 x4).2.1)
      (ix2 k l) = BitVec.ofNat 8 (G k).val := by
  rw [fill8]
  refine (read_fill v f (fun r => upright8 (loadRow arg5 harg5 x4 r)) k l).trans ?_
  have e : 128 * (k.val / 128) + k.val % 128 = k.val := by omega
  rw [upright8_apply, loadRow_apply, hG, (group_words _).1]
  simp only [e]

/-- Row `k` of the second: the group of row `k`, doubled in 16 bits. -/
theorem fill16_apply (v : View sig .tc .vmem S4096x128 .i16) (f : v.ty.Contents (Elt F)) (G : Fin 4096 → Fin 32)
    (hG : ∀ (r : Fin 32) (l : Fin 128), x4 (ix2 r l) = BitVec.ofNat 32 (G ⟨128 * r.val + l.val, by omega⟩).val) (k : Fin 4096) (l : Fin 128) :
    v.read (Elt F) (v.writes (Elt F) f (kernelRun0_A c i arg1 harg1 arg2 harg2 arg3 harg3 arg4 harg4 arg5 harg5 arg6 harg6 arg7 harg7 arg8 harg8 hc0 x0 x1 x2 x3 x4).2.2.1)
      (ix2 k l) = BitVec.ofNat 16 (257 * (G k).val) := by
  rw [fill16]
  refine (read_fill v f (fun r => upright16 (loadRow arg5 harg5 x4 r)) k l).trans ?_
  have e : 128 * (k.val / 128) + k.val % 128 = k.val := by omega
  rw [upright16_apply, loadRow_apply, hG, (group_words _).2]
  simp only [e]

end Run

end Cert.Proof
end
-- ==== Proof.Tile.lean ====
/- What one of the sixteen reduction tiles computes, with its four column chunks and their sixteen pieces each written by the same few
   definitions: the packed codes of a block of words, the differences code minus zero point, the scales, a piece, a chunk, a tile. -/
module

public import proofs.«01_k».proof.Proof.Gen.KernelIdeal.Skeleton

@[expose] public section

set_option maxRecDepth 16384

noncomputable section

namespace Cert.Proof

open Idealize.ShloMosaic Idealize.SL.Sem Cert.KernelIdeal Cert.KernelIdeal.Gen

variable {F : FTy → Type} [FloatOps F]

/-- The 64 codes of each column of a block of 8 rows of words, four codes to a word of the result; `nib` is the shift of each nibble. -/
def codeWords (nib : IVec S8x8x128 32) (q : Vec F S8x128 .i32) : IVec S16x128 32 :=
  bitcast S16x128 32 (trunci 8 (shapeCast S64x128 (andi (shrsi (broadcastTo S8x8x128 (shapeCast S8x1x128 q shapeCasts_S8x128_S8x1x128)
    broadcasts_S8x1x128_S8x8x128) nib) (broadcast S8x8x128 15#32)) shapeCasts_S8x8x128_S64x128) natLt_8_32) bitcasts_S64x128_w8_S16x128_w32

/-- The zero-point bytes of 32 rows: the table `zt` gathered at the rows' groups `pz`. -/
def zeroBytes (zt : IVec S32x128 8) (pz : Vec F S32x128 .i8) : IVec S32x128 8 :=
  dynamicGather 0 zt (shapeCast S32x128 (shapeCast S32x128x1 (extsi 32 pz natLt_8_32) shapeCasts_S32x128_S32x128x1) shapeCasts_S32x128x1_S32x128)

/-- The differences code minus zero point of 32 rows, from the packed codes `cw` of these rows. -/
def diffs (zt : IVec S32x128 8) (cw : IVec S8x128 32) (pz : Vec F S32x128 .i8) : FVec F S32x128 .bf16 :=
  sitofp .bf16 (bitcast S32x128 8 (xori (addi cw (bitcast S8x128 32 (zeroBytes zt pz) bitcasts_S32x128_w8_S8x128_w32))
    (broadcast S8x128 2155905152#32)) bitcasts_S8x128_w32_S32x128_w8)

/-- The groups of 16 rows within their half of the table, as a gather takes them. -/
def groups16 (ps : Vec F S16x128 .i16) : IVec S16x128 32 :=
  shapeCast S16x128 (shapeCast S16x128x1 (andi (extsi 32 ps natLt_16_32) (broadcast S16x128 15#32)) shapeCasts_S16x128_S16x128x1)
    shapeCasts_S16x128x1_S16x128

/-- The scales of 16 rows: from the upper half `hi` of the table where bit 4 of the row's group is set, else from the lower half `lo`. -/
def scales16 (hi lo : Vec F S16x128 .bf16) (ps : Vec F S16x128 .i16) : FVec F S16x128 .bf16 :=
  select (cmpi .ne (andi (extsi 32 ps natLt_16_32) (broadcast S16x128 16#32)) (broadcast S16x128 0#32))
    (dynamicGather 0 hi (groups16 ps)) (dynamicGather 0 lo (groups16 ps))

/-- Sixteen rows of weights of a chunk: rows `ob` on of the 32 differences over the code words at rows `oh` on, times their scales. -/
def piece (nib : IVec S8x8x128 32) (hi lo : Vec F S16x128 .bf16) (zt : IVec S32x128 8) (q : Vec F S8x128 .i32) (oh : ℕ)
    (hh : S16x128.Slices ![oh, 0] S8x128) (pz : Vec F S32x128 .i8) (ob : ℕ) (hb : S32x128.Slices ![ob, 0] S16x128)
    (ps : Vec F S16x128 .i16) : FVec F S16x128 .bf16 :=
  mulf (extractStridedSlice S16x128 ![ob, 0] (diffs zt (extractStridedSlice S8x128 ![oh, 0] (codeWords nib q) hh) pz) hb) (scales16 hi lo ps)

/-- The pieces of one block of 64 rows. -/
def pieces4 (nib : IVec S8x8x128 32) (hi lo : Vec F S16x128 .bf16) (zt : IVec S32x128 8) (q : Vec F S8x128 .i32)
    (pz : Fin 2 → Vec F S32x128 .i8) (ps : Fin 2 → Fin 2 → Vec F S16x128 .i16) (h b : Fin 2) : FVec F S16x128 .bf16 :=
  piece nib hi lo zt q (8 * h) (by revert h; decide +kernel) (pz h) (16 * b) (by revert b; decide +kernel) (ps h b)

/-- The 256 rows of weights of a chunk of 128 columns: four blocks of 64 rows, each of two halves of two pieces. -/
def chunk (nib : IVec S8x8x128 32) (hi lo : Vec F S16x128 .bf16) (zt : IVec S32x128 8) (q : Fin 4 → Vec F S8x128 .i32)
    (pz : Fin 4 → Fin 2 → Vec F S32x128 .i8) (ps : Fin 4 → Fin 2 → Fin 2 → Vec F S16x128 .i16) : FVec F S256x128 .bf16 :=
  concatenate S256x128 0
    [⟨S16x128, pieces4 nib hi lo zt (q 0) (pz 0) (ps 0) 0 0⟩, ⟨S16x128, pieces4 nib hi lo zt (q 0) (pz 0) (ps 0) 0 1⟩,
     ⟨S16x128, pieces4 nib hi lo zt (q 0) (pz 0) (ps 0) 1 0⟩, ⟨S16x128, pieces4 nib hi lo zt (q 0) (pz 0) (ps 0) 1 1⟩,
     ⟨S16x128, pieces4 nib hi lo zt (q 1) (pz 1) (ps 1) 0 0⟩, ⟨S16x128, pieces4 nib hi lo zt (q 1) (pz 1) (ps 1) 0 1⟩,
     ⟨S16x128, pieces4 nib hi lo zt (q 1) (pz 1) (ps 1) 1 0⟩, ⟨S16x128, pieces4 nib hi lo zt (q 1) (pz 1) (ps 1) 1 1⟩,
     ⟨S16x128, pieces4 nib hi lo zt (q 2) (pz 2) (ps 2) 0 0⟩, ⟨S16x128, pieces4 nib hi lo zt (q 2) (pz 2) (ps 2) 0 1⟩,
     ⟨S16x128, pieces4 nib hi lo zt (q 2) (pz 2) (ps 2) 1 0⟩, ⟨S16x128, pieces4 nib hi lo zt (q 2) (pz 2) (ps 2) 1 1⟩,
     ⟨S16x128, pieces4 nib hi lo zt (q 3) (pz 3) (ps 3) 0 0⟩, ⟨S16x128, pieces4 nib hi lo zt (q 3) (pz 3) (ps 3) 0 1⟩,
     ⟨S16x128, pieces4 nib hi lo zt (q 3) (pz 3) (ps 3) 1 0⟩, ⟨S16x128, pieces4 nib hi lo zt (q 3) (pz 3) (ps 3) 1 1⟩]
    concatenates_S16x128_S16x128_S16x128_S16x128_S16x128_S16x128_S16x128_S16x128_S16x128_S16x128_S16x128_S16x128_S16x128_S16x128_S16x128_S16x128_S256x128_d0

/-- The accumulator after a tile of 256 rows: what it was, plus the tile's columns of `x` times the four chunks side by side. -/
def tile (acc : FVec F S256x512 .f32) (x : Vec F S256x256 .bf16) (w : Fin 4 → FVec F S256x128 .bf16) : FVec F S256x512 .f32 :=
  addf acc (matmul dot_S256x256_S256x512_S256x512_1_0_0_1_n_n none (shapeCast S256x256 x shapeCasts_S256x256_S256x256)
    (concatenate S256x512 1 [⟨S256x128, w 0⟩, ⟨S256x128, w 1⟩, ⟨S256x128, w 2⟩, ⟨S256x128, w 3⟩]
      concatenates_S256x128_S256x128_S256x128_S256x128_S256x512_d1)
    (constant S256x512 .f32 0x00000000#32))

/-! ## What tile `k` reads -/

theorem loadQ_inb (k : Fin 16) (n a : Fin 4) : ∀ b, (![32 * k.val + 8 * a.val, 128 * n.val] : Fin 2 → ℕ) b + S8x128.size b ≤ S512x512.size b := by
  intro b
  match b with
  | ⟨0, _⟩ => show 32 * k.val + 8 * a.val + 8 ≤ 512; omega
  | ⟨1, _⟩ => show 128 * n.val + 128 ≤ 512; omega
theorem loadPz_inb (k : Fin 16) (a : Fin 4) (h : Fin 2) :
    ∀ b, (![256 * k.val + 64 * a.val + 32 * h.val, 0] : Fin 2 → ℕ) b + S32x128.size b ≤ S4096x128.size b := by
  intro b
  match b with
  | ⟨0, _⟩ => show 256 * k.val + 64 * a.val + 32 * h.val + 32 ≤ 4096; omega
  | ⟨1, _⟩ => show 0 + 128 ≤ 128; omega
theorem loadPs_inb (k : Fin 16) (a : Fin 4) (h b : Fin 2) :
    ∀ d, (![256 * k.val + 64 * a.val + 32 * h.val + 16 * b.val, 0] : Fin 2 → ℕ) d + S16x128.size d ≤ S4096x128.size d := by
  intro d
  match d with
  | ⟨0, _⟩ => show 256 * k.val + 64 * a.val + 32 * h.val + 16 * b.val + 16 ≤ 4096; omega
  | ⟨1, _⟩ => show 0 + 128 ≤ 128; omega
theorem loadX_inb (k : Fin 16) : ∀ b, (![0, 256 * k.val] : Fin 2 → ℕ) b + S256x256.size b ≤ S256x4096.size b := by
  intro b
  match b with
  | ⟨0, _⟩ => show 0 + 256 ≤ 256; omega
  | ⟨1, _⟩ => show 256 * k.val + 256 ≤ 4096; omega

/-- The words tile `k` reads for block `a` of 64 rows, in column chunk `n`. -/
def loadQ (arg2 : Memref sig .tc .vmem S512x512 .i32) (X : BufTy.Contents (Elt F) arg2.view.ty) (k : Fin 16) (n a : Fin 4) : Vec F S8x128 .i32 :=
  View.readAt (Elt F) arg2.view (Rect.unit (s := S512x512) ![32 * k.val + 8 * a.val, 128 * n.val] S8x128.size (loadQ_inb k n a)).toLoadRect X

/-- The bytes of groups it reads for half `h` of block `a`. -/
def loadPz (arg7 : Memref sig .tc .vmem S4096x128 .i8) (X : BufTy.Contents (Elt F) arg7.view.ty) (k : Fin 16) (a : Fin 4) (h : Fin 2) :
    Vec F S32x128 .i8 :=
  View.readAt (Elt F) arg7.view (Rect.unit (s := S4096x128) ![256 * k.val + 64 * a.val + 32 * h.val, 0] S32x128.size (loadPz_inb k a h)).toLoadRect X

/-- The 16-bit patterns of groups it reads for piece `b` of half `h` of block `a`. -/
def loadPs (arg8 : Memref sig .tc .vmem S4096x128 .i16) (X : BufTy.Contents (Elt F) arg8.view.ty) (k : Fin 16) (a : Fin 4) (h b : Fin 2) :
    Vec F S16x128 .i16 :=
  View.readAt (Elt F) arg8.view (Rect.unit (s := S4096x128) ![256 * k.val + 64 * a.val + 32 * h.val + 16 * b.val, 0] S16x128.size
    (loadPs_inb k a h b)).toLoadRect X

/-- The columns of `x` it reads. -/
def loadX (arg1 : Memref sig .tc .vmem S256x4096 .bf16) (X : BufTy.Contents (Elt F) arg1.view.ty) (k : Fin 16) : Vec F S256x256 .bf16 :=
  View.readAt (Elt F) arg1.view (Rect.unit (s := S256x4096) ![0, 256 * k.val] S256x256.size (loadX_inb k)).toLoadRect X

end Cert.Proof
end
-- ==== Proof.Words.lean ====
/- Four bytes in a 32-bit word: the word and its bytes, the sum of two words whose bytes do not carry, and the byte trick of the kernel: adding
   `128 - z` to the code `c`, four bytes at a time, and flipping the top bit of every byte leaves `c - z` as signed bytes. -/
module

public import Idealize.ShloMosaic.Lib.BitcastFour
public import Idealize.ShloMosaic.Lib.Pointwise.IndexBridge

@[expose] public section

namespace Cert.Proof

open Idealize.ShloMosaic

/-- The word of four bytes, byte 0 lowest. -/
def word4 (b : Fin 4 → BitVec 8) : BitVec 32 :=
  (b 0).setWidth 32 ||| ((b 1).setWidth 32 <<< 8) ||| ((b 2).setWidth 32 <<< 16) ||| ((b 3).setWidth 32 <<< 24)

/-- The word of four bytes, as a number. -/
theorem word4_toNat (b : Fin 4 → BitVec 8) :
    (word4 b).toNat = (b 0).toNat + 256 * (b 1).toNat + 65536 * (b 2).toNat + 16777216 * (b 3).toNat := by
  have h0 := (b 0).isLt; have h1 := (b 1).isLt; have h2 := (b 2).isLt; have h3 := (b 3).isLt
  have e : word4 b = (((b 3 ++ b 2) ++ b 1) ++ b 0 : BitVec 32) := by
    apply BitVec.eq_of_getLsbD_eq
    intro q hq
    rw [word4, four_bytes_getLsbD b q hq]
    simp only [BitVec.getLsbD_append]
    have hc : q / 8 = 0 ∨ q / 8 = 1 ∨ q / 8 = 2 ∨ q / 8 = 3 := by omega
    rcases hc with h | h | h | h
    · rw [show (⟨q / 8, by omega⟩ : Fin 4) = 0 from Fin.ext h, show q % 8 = q by omega, if_pos (by omega)]
    · rw [show (⟨q / 8, by omega⟩ : Fin 4) = 1 from Fin.ext h, show q % 8 = q - 8 by omega, if_neg (by omega), if_pos (by omega)]
    · rw [show (⟨q / 8, by omega⟩ : Fin 4) = 2 from Fin.ext h, show q % 8 = q - 8 - 8 by omega, if_neg (by omega), if_neg (by omega),
        if_pos (by omega)]
    · rw [show (⟨q / 8, by omega⟩ : Fin 4) = 3 from Fin.ext h, show q % 8 = q - 8 - 8 - 8 by omega, if_neg (by omega), if_neg (by omega),
        if_neg (by omega)]
  rw [e]
  simp only [BitVec.toNat_append]
  rw [← Nat.shiftLeft_add_eq_or_of_lt h2, ← Nat.shiftLeft_add_eq_or_of_lt h1, ← Nat.shiftLeft_add_eq_or_of_lt h0]
  simp only [Nat.shiftLeft_eq]
  omega

/-- Where no byte carries, a byte of the sum of two words is the sum of the bytes. -/
theorem byte_add (b d : Fin 4 → BitVec 8) (h : ∀ p, (b p).toNat + (d p).toNat < 256) (p : Fin 4) :
    (word4 b + word4 d).extractLsb' (8 * p.val) 8 = b p + d p := by
  have h0 := h 0; have h1 := h 1; have h2 := h 2; have h3 := h 3
  apply BitVec.eq_of_toNat_eq
  rw [BitVec.extractLsb'_toNat, BitVec.toNat_add, BitVec.toNat_add, word4_toNat, word4_toNat, Nat.shiftRight_eq_div_pow]
  match p with
  | 0 => show _ / 1 % 256 = (_ + _) % 256; omega
  | 1 => show _ / 256 % 256 = (_ + _) % 256; omega
  | 2 => show _ / 65536 % 256 = (_ + _) % 256; omega
  | 3 => show _ / 16777216 % 256 = (_ + _) % 256; omega

/-- … and with the top bit of each byte flipped, the sum's byte with its top bit flipped. -/
theorem byte_add_flip (b d : Fin 4 → BitVec 8) (h : ∀ p, (b p).toNat + (d p).toNat < 256) (p : Fin 4) :
    ((word4 b + word4 d) ^^^ 2155905152#32).extractLsb' (8 * p.val) 8 = (b p + d p) ^^^ 128#8 := by
  rw [← byte_add b d h p]
  have e : (2155905152#32).extractLsb' (8 * p.val) 8 = 128#8 := by revert p; decide
  rw [← e]
  exact BitVec.extractLsb'_xor

/-- The code `c` plus `128 - z`, its top bit flipped, is `c - z` as a signed byte. -/
theorem code_sub_zero (c z : Fin 16) :
    ((BitVec.ofNat 8 c.val + BitVec.ofNat 8 (128 - z.val)) ^^^ 128#8).toInt = (c.val : ℤ) - (z.val : ℤ) := by
  revert c z; decide +kernel

/-- Bytes read as words: the word at row `a` is that of rows `4a` to `4a + 3`. -/
theorem bitcast_8_32_word4 {R r n : Nat} (x : (⟨2, ![R, n]⟩ : Shape).Idx → BitVec 8)
    (h : (⟨2, ![R, n]⟩ : Shape).Bitcasts 8 ⟨2, ![r, n]⟩ 32) (a : Fin r) (l : Fin n) (p : Fin 4 → Fin R) (hp : ∀ q, (p q).val = 4 * a.val + q.val) :
    bitcast ⟨2, ![r, n]⟩ 32 x h (ix2 a l) = word4 fun q => x (ix2 (p q) l) := by
  apply BitVec.eq_of_getLsbD_eq
  intro q hq
  simp only [ix2_eq_valueIdx]
  rw [bitcast_8_32_getLsbD_ix2 x h a l q hq (p ⟨q / 8, by omega⟩) (hp _), word4, four_bytes_getLsbD (fun q => x (ValueIdx.ix2 (p q) l)) q hq]

/-- Words read as bytes: row `i` is byte `i % 4` of the word at row `i / 4`. -/
theorem bitcast_32_8 {R r n : Nat} (x : (⟨2, ![r, n]⟩ : Shape).Idx → BitVec 32)
    (h : (⟨2, ![r, n]⟩ : Shape).Bitcasts 32 ⟨2, ![R, n]⟩ 8) (i : Fin R) (l : Fin n) (a : Fin r) (ha : a.val = i.val / 4) :
    bitcast ⟨2, ![R, n]⟩ 8 x h (ix2 i l) = (x (ix2 a l)).extractLsb' (8 * (i.val % 4)) 8 := by
  apply BitVec.eq_of_getLsbD_eq
  intro q hq
  simp only [ix2_eq_valueIdx]
  rw [bitcast_getLsbD x h _ q hq (by decide), BitVec.getLsbD_extractLsb']
  have row : Shape.row ⟨2, ![R, n]⟩ (ValueIdx.ix2 i l) = i.val := rfl
  have eq : (Shape.row ⟨2, ![R, n]⟩ (ValueIdx.ix2 i l) * 8 + q) % 32 = 8 * (i.val % 4) + q := by rw [row]; omega
  rw [eq]
  simp only [hq, decide_true, Bool.true_and]
  congr 2
  funext c
  match c with
  | ⟨0, _⟩ => exact Fin.ext ((h.srcIdx_row _ _ _ ⟨0, Nat.zero_lt_two⟩ rfl).trans (by show (i.val * 8 + q) / 32 = a.val; omega))
  | ⟨1, _⟩ => exact Fin.ext (h.srcIdx_other _ _ _ ⟨1, Nat.one_lt_two⟩ (by show ¬ 1 + 2 = 2; omega))

end Cert.Proof
end
-- ==== Proof.Spec.lean ====
/- The layer as a formula: a weight is the code of its row and column, less the zero point of the row's group in that column, times the scale of
   that group in that column. Codes and zero points are four bits each, packed in words and in bytes. -/
module

public import Idealize.ShloMosaic.PureOps.Ideal

@[expose] public section

noncomputable section

namespace Cert.Proof

open Idealize.ShloMosaic

/-- Code `n` of a word: its `n`-th four bits, from the lowest. -/
def code (w : BitVec 32) (n : Fin 8) : BitVec 32 := w.sshiftRight (4 * n.val) &&& 15#32

theorem code_lt (w : BitVec 32) (n : Fin 8) : (code w n).toNat < 16 := by
  unfold code
  rw [BitVec.toNat_and]
  exact Nat.lt_of_le_of_lt Nat.and_le_right (by decide)

/-- A shift by a nibble's place and a mask: the code. -/
theorem andi_shrsi (u : ArithUnit) (w : BitVec 32) (n : Fin 8) :
    IntOp.andi (IntOp.shrsi u w (BitVec.ofNat 32 (4 * n.val))) 15#32 = code w n := by
  have h : (BitVec.ofNat 32 (4 * n.val)).toNat = 4 * n.val := by rw [BitVec.toNat_ofNat]; omega
  rw [IntOp.andi, IntOp.shrsi, if_pos (by rw [h]; omega), code, BitVec.sshiftRight', h]

/-- … as a number below 16. -/
def codeOf (w : BitVec 32) (n : Fin 8) : Fin 16 := ⟨(code w n).toNat, code_lt w n⟩

/-- The weight of a row: code less zero point, times scale. -/
def weight (c z : Fin 16) (s : EReal) : EReal := (((c.val : ℝ) : EReal) - ((z.val : ℝ) : EReal)) * s

/-- The zero point of group `g` in a column, from the byte at row `g % 16` of that column: groups below 16 have the low four bits, the others the
    high four. -/
def zeroNib (g : Fin 32) (b : BitVec 8) : Fin 16 :=
  if g.val < 16 then ⟨b.toNat % 16, Nat.mod_lt _ (by decide)⟩ else ⟨b.toNat / 16, by have := b.isLt; omega⟩

theorem zeroNib_lo (g : Fin 32) (b : BitVec 8) (h : g.val < 16) : IntOp.andi (b.setWidth 32) 15#32 = BitVec.ofNat 32 (zeroNib g b).val := by
  rw [zeroNib, if_pos h]
  have : ∀ b : BitVec 8, IntOp.andi (b.setWidth 32) 15#32 = BitVec.ofNat 32 (b.toNat % 16) := by decide +kernel
  exact this b

theorem zeroNib_hi (u : ArithUnit) (g : Fin 32) (b : BitVec 8) (h : ¬ g.val < 16) :
    IntOp.shrsi u (b.setWidth 32) 4#32 = BitVec.ofNat 32 (zeroNib g b).val := by
  rw [zeroNib, if_neg h]
  have : ∀ b : BitVec 8, (b.setWidth 32).sshiftRight' 4#32 = BitVec.ofNat 32 (b.toNat / 16) := by decide +kernel
  exact this b

end Cert.Proof
end
-- ==== Proof.Entry.lean ====
/- An entry of a chunk of weights, over the ideal floats: the code of its row less the zero point of the row's group, times the scale of that group. -/
module

public import proofs.«01_k».proof.Proof.Tile
public import proofs.«01_k».proof.Proof.Words
public import proofs.«01_k».proof.Proof.Spec
public import Idealize.ShloMosaic.Lib.Pointwise
public import Idealize.ShloMosaic.PureOps.Ideal

@[expose] public section

set_option maxRecDepth 16384

noncomputable section

namespace Cert.Proof

open Idealize.ShloMosaic Idealize.SL.Sem Cert.KernelIdeal Cert.KernelIdeal.Gen

/-- The shift of each nibble, as the kernel writes it. -/
def nibs : IVec S8x8x128 32 := muli (broadcast S8x8x128 4#32) (iota .tc S8x8x128 32 [1] iota_S8x8x128_d1_w32)

theorem nibs_apply (i : Fin 8) (n : Fin 8) (l : Fin 128) : nibs (ix3 i n l) = BitVec.ofNat 32 (4 * n.val) := by
  unfold nibs
  pointwise
  revert n; decide

/-- The codes of a block of words: byte `p` of word `w` of the result is code `(4w + p) % 8` of word `(4w + p) / 8` of the block. -/
theorem codeWords_apply (q : Vec Ideal S8x128 .i32) (w : Fin 16) (l : Fin 128) :
    codeWords nibs q (ix2 w l) = word4 fun p =>
      (code (q (ix2 (⟨(4 * w.val + p.val) / 8, by omega⟩ : Fin 8) l)) ⟨(4 * w.val + p.val) % 8, by omega⟩).setWidth 8 := by
  unfold codeWords
  rw [bitcast_8_32_word4 _ _ w l (fun p => (⟨4 * w.val + p.val, by omega⟩ : Fin 64)) (fun _ => rfl)]
  congr 1
  funext p
  pointwise
  rw [nibs_apply, andi_shrsi]

/-- The zero-point byte of a row: the table's at the row's group. -/
theorem zeroBytes_apply (zt : IVec S32x128 8) (pz : Vec Ideal S32x128 .i8) (i : Fin 32) (l : Fin 128) :
    zeroBytes zt pz (ix2 i l) = zt (ix2 (⟨((pz (ix2 i l)).signExtend 32).toNat % 32, Nat.mod_lt _ (by decide)⟩ : Fin 32) l) := by
  unfold zeroBytes
  pointwise

/-- A difference: where the codes' bytes are `C` and the rows' zero points are `Z`, the code of the row less its zero point. -/
theorem diffs_apply (zt : IVec S32x128 8) (cw : IVec S8x128 32) (pz : Vec Ideal S32x128 .i8) (l : Fin 128)
    (C Z : Fin 32 → Fin 16)
    (hC : ∀ w : Fin 8, cw (ix2 w l) = word4 fun p => BitVec.ofNat 8 (C ⟨4 * w.val + p.val, by omega⟩).val)
    (hZ : ∀ i : Fin 32, zeroBytes zt pz (ix2 i l) = BitVec.ofNat 8 (128 - (Z i).val)) (i : Fin 32) :
    diffs zt cw pz (ix2 i l) = (((C i).val : ℝ) : EReal) - (((Z i).val : ℝ) : EReal) := by
  unfold diffs
  pointwise
  rw [bitcast_32_8 _ _ i l (⟨i.val / 4, by omega⟩ : Fin 8) rfl]
  pointwise
  rw [hC, bitcast_8_32_word4 _ _ _ l (fun p => (⟨4 * (i.val / 4) + p.val, by omega⟩ : Fin 32)) (fun _ => rfl)]
  simp only [hZ]
  have h := byte_add_flip (fun p => BitVec.ofNat 8 (C ⟨4 * (i.val / 4) + p.val, by omega⟩).val)
    (fun p => BitVec.ofNat 8 (128 - (Z ⟨4 * (i.val / 4) + p.val, by omega⟩).val)) (fun p => by simp only [BitVec.toNat_ofNat]; omega)
    ⟨i.val % 4, by omega⟩
  have hi : (⟨4 * (i.val / 4) + i.val % 4, by omega⟩ : Fin 32) = i := Fin.ext (by simp only []; omega)
  simp only [hi] at h
  refine (congrArg (FloatOps.sitofp (F := Ideal) FTy.bf16) h).trans ?_
  show (((BitVec.toInt _ : ℤ) : ℝ) : EReal) = _
  rw [code_sub_zero, ← EReal.coe_sub]
  push_cast
  rfl

/-- The bit of a group that tells its half of the table, and its row there. -/
theorem group_bit (g : Fin 32) :
    (IntOp.cmpi CmpIPredicate.ne (IntOp.andi (BitVec.signExtend 32 (BitVec.ofNat 16 (257 * g.val))) 16#32) 0#32 = if 16 ≤ g.val then 1#1 else 0#1)
      ∧ (IntOp.andi (BitVec.signExtend 32 (BitVec.ofNat 16 (257 * g.val))) 15#32).toNat % 16 = g.val % 16 := by
  revert g; decide +kernel

/-- A group's row in the table of zero points. -/
theorem group_byte (g : Fin 32) : (BitVec.signExtend 32 (BitVec.ofNat 8 g.val)).toNat % 32 = g.val := by
  revert g; decide +kernel

/-- The scale of a row: the table's at the row's group. -/
theorem scales16_apply (hi lo : Vec Ideal S16x128 .bf16) (ps : Vec Ideal S16x128 .i16) (i : Fin 16) (l : Fin 128) (S : Fin 32 → EReal)
    (hhi : ∀ r : Fin 16, hi (ix2 r l) = S ⟨16 + r.val, by omega⟩) (hlo : ∀ r : Fin 16, lo (ix2 r l) = S ⟨r.val, by omega⟩)
    (g : Fin 32) (hg : ps (ix2 i l) = BitVec.ofNat 16 (257 * g.val)) : scales16 hi lo ps (ix2 i l) = S g := by
  unfold scales16 groups16
  pointwise
  simp only [hhi, hlo, hg]
  rw [(group_bit g).1]
  have e := (group_bit g).2
  by_cases h : 16 ≤ g.val
  · rw [if_pos h]
    exact congrArg S (Fin.ext (by simp only [e]; omega))
  · rw [if_neg h]
    exact congrArg S (Fin.ext (by simp only [e]; omega))

/-- An entry of the pieces of a block of 64 rows. -/
theorem pieces4_apply (hi lo : Vec Ideal S16x128 .bf16) (zt : IVec S32x128 8) (q : Vec Ideal S8x128 .i32) (pz : Fin 2 → Vec Ideal S32x128 .i8)
    (ps : Fin 2 → Fin 2 → Vec Ideal S16x128 .i16) (l : Fin 128) (S : Fin 32 → EReal) (Z : Fin 32 → Fin 16) (G : Fin 64 → Fin 32)
    (hhi : ∀ r : Fin 16, hi (ix2 r l) = S ⟨16 + r.val, by omega⟩) (hlo : ∀ r : Fin 16, lo (ix2 r l) = S ⟨r.val, by omega⟩)
    (hzt : ∀ g : Fin 32, zt (ix2 g l) = BitVec.ofNat 8 (128 - (Z g).val))
    (hpz : ∀ (h : Fin 2) (i : Fin 32), pz h (ix2 i l) = BitVec.ofNat 8 (G ⟨32 * h.val + i.val, by omega⟩).val)
    (hps : ∀ (h b : Fin 2) (i : Fin 16), ps h b (ix2 i l) = BitVec.ofNat 16 (257 * (G ⟨32 * h.val + 16 * b.val + i.val, by omega⟩).val))
    (h b : Fin 2) (i : Fin 16) (r : Fin 64) (hr : r.val = 32 * h.val + 16 * b.val + i.val) :
    pieces4 nibs hi lo zt q pz ps h b (ix2 i l)
      = weight (codeOf (q (ix2 (⟨r.val / 8, by omega⟩ : Fin 8) l)) ⟨r.val % 8, by omega⟩) (Z (G r)) (S (G r)) := by
  obtain ⟨r, hlt⟩ := r
  simp only [] at hr
  subst hr
  unfold pieces4 piece
  pointwise
  rw [scales16_apply hi lo _ i l S hhi hlo _ (hps h b i)]
  rw [diffs_apply zt _ _ l
    (fun j => codeOf (q (ix2 (⟨(32 * h.val + j.val) / 8, by omega⟩ : Fin 8) l)) ⟨(32 * h.val + j.val) % 8, by omega⟩)
    (fun j => Z (G ⟨32 * h.val + j.val, by omega⟩))]
  · simp only [weight, Nat.add_assoc]
  · intro w
    pointwise
    rw [codeWords_apply]
    congr 1
    funext p
    have e : 4 * (8 * h.val + w.val) + p.val = 32 * h.val + (4 * w.val + p.val) := by omega
    simp only [e]
    exact (BitVec.ofNat_toNat _ _).symm
  · intro j
    rw [zeroBytes_apply, hzt, hpz]
    simp only [group_byte]

/-- An entry of a chunk: the row's weight in the chunk's column. -/
theorem chunk_apply (hi lo : Vec Ideal S16x128 .bf16) (zt : IVec S32x128 8) (q : Fin 4 → Vec Ideal S8x128 .i32)
    (pz : Fin 4 → Fin 2 → Vec Ideal S32x128 .i8) (ps : Fin 4 → Fin 2 → Fin 2 → Vec Ideal S16x128 .i16) (l : Fin 128)
    (S : Fin 32 → EReal) (Z : Fin 32 → Fin 16) (G : Fin 256 → Fin 32)
    (hhi : ∀ r : Fin 16, hi (ix2 r l) = S ⟨16 + r.val, by omega⟩) (hlo : ∀ r : Fin 16, lo (ix2 r l) = S ⟨r.val, by omega⟩)
    (hzt : ∀ g : Fin 32, zt (ix2 g l) = BitVec.ofNat 8 (128 - (Z g).val))
    (hpz : ∀ (a : Fin 4) (h : Fin 2) (i : Fin 32), pz a h (ix2 i l) = BitVec.ofNat 8 (G ⟨64 * a.val + (32 * h.val + i.val), by omega⟩).val)
    (hps : ∀ (a : Fin 4) (h b : Fin 2) (i : Fin 16),
      ps a h b (ix2 i l) = BitVec.ofNat 16 (257 * (G ⟨64 * a.val + (32 * h.val + 16 * b.val + i.val), by omega⟩).val))
    (r : Fin 256) :
    chunk nibs hi lo zt q pz ps (ix2 r l)
      = weight (codeOf (q ⟨r.val / 64, by omega⟩ (ix2 (⟨r.val % 64 / 8, by omega⟩ : Fin 8) l)) ⟨r.val % 8, by omega⟩) (Z (G r)) (S (G r)) := by
  have e : chunk nibs hi lo zt q pz ps = concatenate S256x128 0 (List.ofFn fun n : Fin 16 => (⟨S16x128,
      pieces4 nibs hi lo zt (q ⟨n.val / 4, by omega⟩) (pz ⟨n.val / 4, by omega⟩) (ps ⟨n.val / 4, by omega⟩) ⟨n.val / 2 % 2, by omega⟩
        ⟨n.val % 2, by omega⟩⟩ : (s : Shape) × Vec Ideal s .bf16))
      concatenates_S16x128_S16x128_S16x128_S16x128_S16x128_S16x128_S16x128_S16x128_S16x128_S16x128_S16x128_S16x128_S16x128_S16x128_S16x128_S16x128_S256x128_d0 := rfl
  rw [e]
  refine (concatenate_ofFn_apply (t := S256x128) (s₁ := S16x128) 0 _ _ rfl 16 rfl (ix2 r l) (⟨r.val / 16, by omega⟩ : Fin 16) rfl
    (ix2 (⟨r.val % 16, by omega⟩ : Fin 16) l) rfl (fun b hb => by
      match b with
      | ⟨0, _⟩ => exact absurd rfl hb
      | ⟨1, _⟩ => rfl)).trans ?_
  have q4 : r.val / 16 / 4 = r.val / 64 := by omega
  have r8 : r.val % 64 % 8 = r.val % 8 := by omega
  have r64 : 64 * (r.val / 64) + r.val % 64 = r.val := by omega
  simp only [q4]
  rw [pieces4_apply hi lo zt _ _ _ l S Z (fun i => G ⟨64 * (r.val / 64) + i.val, by omega⟩) hhi hlo hzt (fun h i => hpz _ h i)
    (fun h b i => hps _ h b i) _ _ _ ⟨r.val % 64, by omega⟩ (by simp only []; omega)]
  simp only [r8, r64]

end Cert.Proof
end
-- ==== Proof.TileSum.lean ====
/- An entry of the accumulator after a tile of 256 rows, over the ideal floats: what it was, plus the tile's 256 products. -/
module

public import proofs.«01_k».proof.Proof.Tile
public import Idealize.ShloMosaic.Lib.Pointwise
public import Idealize.ShloMosaic.PureOps.Ideal

@[expose] public section

set_option maxRecDepth 16384

noncomputable section

namespace Cert.Proof

open Idealize.ShloMosaic Idealize.SL.Sem Cert.KernelIdeal Cert.KernelIdeal.Gen

/-- Four chunks side by side: column `o` is column `o % 128` of chunk `o / 128`. -/
theorem chunks_apply (w : Fin 4 → FVec Ideal S256x128 .bf16) (r : Fin 256) (o : Fin 512) :
    concatenate S256x512 1 [⟨S256x128, w 0⟩, ⟨S256x128, w 1⟩, ⟨S256x128, w 2⟩, ⟨S256x128, w 3⟩]
      concatenates_S256x128_S256x128_S256x128_S256x128_S256x512_d1 (ix2 r o)
      = w ⟨o.val / 128, by omega⟩ (ix2 r ⟨o.val % 128, by omega⟩) := by
  refine (concatenate_ofFn_apply (t := S256x512) (s₁ := S256x128) 1 w
    concatenates_S256x128_S256x128_S256x128_S256x128_S256x512_d1 rfl 128 rfl (ix2 r o) (⟨o.val / 128, by omega⟩ : Fin 4) rfl
    (ix2 r (⟨o.val % 128, by omega⟩ : Fin 128)) rfl (fun b hb => by
      match b with
      | ⟨0, _⟩ => rfl
      | ⟨1, _⟩ => exact absurd rfl hb))

/-- An entry of the accumulator after a tile. -/
theorem tile_apply (acc : FVec Ideal S256x512 .f32) (x : Vec Ideal S256x256 .bf16) (w : Fin 4 → FVec Ideal S256x128 .bf16)
    (m : Fin 256) (o : Fin 512) :
    tile acc x w (ix2 m o) = acc (ix2 m o) + ∑ r : Fin 256, x (ix2 m r) * w ⟨o.val / 128, by omega⟩ (ix2 r ⟨o.val % 128, by omega⟩) := by
  have hW := chunks_apply w
  unfold tile
  generalize concatenate S256x512 1 _ _ = W at hW ⊢
  pointwise
  simp only [hW]

end Cert.Proof
end
-- ==== Proof.Tables.lean ====
/- The kernel's table of zero points: from the packed bytes of 128 columns, `128` less the zero point of each group, as bytes. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof

open Idealize.ShloMosaic Idealize.SL.Sem Cert.KernelIdeal Cert.KernelIdeal.Gen

variable {F : FTy → Type} [FloatOps F]

/-- The zero points of 32 groups, from the bytes of 16 rows: the low halves, then the high halves. -/
def zeroPoints (v : Vec F S16x128 .i8) : IVec S32x128 32 :=
  concatenate S32x128 0
    [⟨S16x128, andi (extui 32 v natLt_8_32) (broadcast S16x128 15#32)⟩,
     ⟨S16x128, andi (shrsi (extui 32 v natLt_8_32) (broadcast S16x128 4#32)) (broadcast S16x128 15#32)⟩]
    concatenates_S16x128_S16x128_S32x128_d0

/-- `128 - z` as bytes, the way the kernel writes it. -/
def zeroTable (v : Vec F S16x128 .i8) : IVec S32x128 8 :=
  trunci 8 (shrsi (shli (addi (addi (broadcast S32x128 4294967168#32) (muli (zeroPoints v) (broadcast S32x128 4294967295#32)))
    (broadcast S32x128 256#32)) (broadcast S32x128 24#32)) (broadcast S32x128 24#32)) natLt_8_32

theorem zeroPoints_apply (v : Vec F S16x128 .i8) (g : Fin 32) (l : Fin 128) :
    zeroPoints v (ix2 g l) = BitVec.ofNat 32 (zeroNib g (v (ix2 (⟨g.val % 16, by omega⟩ : Fin 16) l))).val := by
  unfold zeroPoints
  pointwise
  by_cases h : g.val < 16
  · have e : g.val % 16 = g.val := by omega
    simp only [dif_pos h, e]
    exact zeroNib_lo g _ h
  · have e : g.val % 16 = g.val - 16 := by omega
    simp only [dif_neg h, e]
    have h15 : ∀ z : Fin 16, IntOp.andi (BitVec.ofNat 32 z.val) 15#32 = BitVec.ofNat 32 z.val := by decide
    rw [zeroNib_hi _ g _ h, h15]

/-- An entry of the table of zero points. -/
theorem zeroTable_apply (v : Vec F S16x128 .i8) (g : Fin 32) (l : Fin 128) :
    zeroTable v (ix2 g l) = BitVec.ofNat 8 (128 - (zeroNib g (v (ix2 (⟨g.val % 16, by omega⟩ : Fin 16) l))).val) := by
  unfold zeroTable
  pointwise
  rw [zeroPoints_apply]
  generalize zeroNib g _ = z
  revert z
  decide +kernel

end Cert.Proof
end
-- ==== Proof.Reduce.lean ====
/- A tile of 256 rows, over the ideal floats, in terms of the blocks a grid point reads: it adds the products of its rows to the accumulator.
   Sixteen tiles add up the 4096 products of an entry. -/
module

public import proofs.«01_k».proof.Proof.Entry
public import proofs.«01_k».proof.Proof.TileSum
public import proofs.«01_k».proof.Proof.Tables

@[expose] public section

set_option maxRecDepth 16384

noncomputable section

namespace Cert.Proof

open Idealize.ShloMosaic Idealize.SL.Sem Cert.KernelIdeal Cert.KernelIdeal.Gen

section
variable (x0 : Vec Ideal S256x4096 .bf16) (x1 : Vec Ideal S512x512 .i32) (x2 : Vec Ideal S32x512 .bf16) (x3 : Vec Ideal S16x512 .i8)
  (G : Fin 4096 → Fin 32)

/-- The product row `k` contributes to an entry: the entry of `x` times the weight, where `G k` is the group of row `k`. -/
def term (m : Fin 256) (o : Fin 512) (k : Fin 4096) : EReal :=
  x0 (ix2 m k) * weight (codeOf (x1 (ix2 (⟨k.val / 8, by omega⟩ : Fin 512) o)) ⟨k.val % 8, by omega⟩)
    (zeroNib (G k) (x3 (ix2 (⟨(G k).val % 16, by omega⟩ : Fin 16) o))) (x2 (ix2 (G k) o))

/-- Tile `t` adds the products of rows `256 t` to `256 t + 255`, when it reads those rows of the blocks and of the tables of groups. -/
theorem tile_term (t : Fin 16) (acc : FVec Ideal S256x512 .f32) (x : Vec Ideal S256x256 .bf16) (hi lo : Fin 4 → Vec Ideal S16x128 .bf16)
    (v : Fin 4 → Vec Ideal S16x128 .i8) (q : Fin 4 → Fin 4 → Vec Ideal S8x128 .i32)
    (pz : Fin 4 → Fin 2 → Vec Ideal S32x128 .i8) (ps : Fin 4 → Fin 2 → Fin 2 → Vec Ideal S16x128 .i16)
    (hx : ∀ (m r : Fin 256), x (ix2 m r) = x0 (ix2 m ⟨256 * t.val + r.val, by omega⟩))
    (hhi : ∀ (n : Fin 4) (r : Fin 16) (l : Fin 128), hi n (ix2 r l) = x2 (ix2 ⟨16 + r.val, by omega⟩ ⟨128 * n.val + l.val, by omega⟩))
    (hlo : ∀ (n : Fin 4) (r : Fin 16) (l : Fin 128), lo n (ix2 r l) = x2 (ix2 ⟨r.val, by omega⟩ ⟨128 * n.val + l.val, by omega⟩))
    (hv : ∀ (n : Fin 4) (r : Fin 16) (l : Fin 128), v n (ix2 r l) = x3 (ix2 r ⟨128 * n.val + l.val, by omega⟩))
    (hq : ∀ (n a : Fin 4) (i : Fin 8) (l : Fin 128),
      q n a (ix2 i l) = x1 (ix2 ⟨32 * t.val + 8 * a.val + i.val, by omega⟩ ⟨128 * n.val + l.val, by omega⟩))
    (hpz : ∀ (a : Fin 4) (h : Fin 2) (i : Fin 32) (l : Fin 128),
      pz a h (ix2 i l) = BitVec.ofNat 8 (G ⟨256 * t.val + (64 * a.val + (32 * h.val + i.val)), by omega⟩).val)
    (hps : ∀ (a : Fin 4) (h b : Fin 2) (i : Fin 16) (l : Fin 128),
      ps a h b (ix2 i l) = BitVec.ofNat 16 (257 * (G ⟨256 * t.val + (64 * a.val + (32 * h.val + 16 * b.val + i.val)), by omega⟩).val))
    (m : Fin 256) (o : Fin 512) :
    tile acc x (fun n => chunk nibs (hi n) (lo n) (zeroTable (v n)) (q n) pz ps) (ix2 m o)
      = acc (ix2 m o) + ∑ r : Fin 256, term x0 x1 x2 x3 G m o ⟨256 * t.val + r.val, by omega⟩ := by
  rw [tile_apply]
  congr 1
  refine Finset.sum_congr rfl fun r _ => ?_
  have ho : 128 * (o.val / 128) + o.val % 128 = o.val := by omega
  rw [chunk_apply (hi ⟨o.val / 128, by omega⟩) (lo ⟨o.val / 128, by omega⟩) (zeroTable (v ⟨o.val / 128, by omega⟩)) (q ⟨o.val / 128, by omega⟩)
    pz ps ⟨o.val % 128, by omega⟩ (fun g => x2 (ix2 g o)) (fun g => zeroNib g (x3 (ix2 (⟨g.val % 16, by omega⟩ : Fin 16) o)))
    (fun r => G ⟨256 * t.val + r.val, by omega⟩)
    (fun r => by rw [hhi]; simp only [ho]) (fun r => by rw [hlo]; simp only [ho]) (fun g => by rw [zeroTable_apply, hv]; simp only [ho])
    (fun a h i => hpz a h i _) (fun a h b i => hps a h b i _) r, hx, hq]
  unfold term
  have e1 : 32 * t.val + 8 * (r.val / 64) + r.val % 64 / 8 = (256 * t.val + r.val) / 8 := by omega
  have e2 : (256 * t.val + r.val) % 8 = r.val % 8 := by omega
  simp only [ho, e1, e2]

/-- The products of the first `n` tiles. -/
def partialSum (m : Fin 256) (o : Fin 512) (n : ℕ) : EReal :=
  ∑ t : Fin n, ∑ r : Fin 256, if h : t.val < 16 then term x0 x1 x2 x3 G m o ⟨256 * t.val + r.val, by omega⟩ else 0

theorem partialSum_succ (m : Fin 256) (o : Fin 512) (n : Fin 16) :
    partialSum x0 x1 x2 x3 G m o (n.val + 1)
      = partialSum x0 x1 x2 x3 G m o n.val + ∑ r : Fin 256, term x0 x1 x2 x3 G m o ⟨256 * n.val + r.val, by omega⟩ := by
  unfold partialSum
  rw [Fin.sum_univ_castSucc]
  congr 1
  exact Finset.sum_congr rfl fun r _ => dif_pos n.isLt

/-- Sixteen tiles of 256 rows are the 4096 rows. -/
theorem partialSum_all (m : Fin 256) (o : Fin 512) :
    partialSum x0 x1 x2 x3 G m o 16 = ∑ k : Fin 4096, term x0 x1 x2 x3 G m o k := by
  unfold partialSum
  rw [← Equiv.sum_comp (finProdFinEquiv (m := 16) (n := 256)) (term x0 x1 x2 x3 G m o), Fintype.sum_prod_type]
  refine Finset.sum_congr rfl fun t _ => Finset.sum_congr rfl fun r _ => ?_
  rw [dif_pos t.isLt]
  congr 1
  exact Fin.ext (Nat.add_comm _ _)

end

end Cert.Proof
end
-- ==== Proof.Sums.lean ====
/- The kernel's sixteen reduction tiles over the ideal floats: after `n` of them the accumulator holds the products of the first `n` tiles. -/
module

public import proofs.«01_k».proof.Proof.Reduce

@[expose] public section

set_option maxRecDepth 16384

noncomputable section

namespace Cert.Proof

open Idealize.ShloMosaic Idealize.SL.Sem Cert.KernelIdeal Cert.KernelIdeal.Gen

/-- A load of a rectangle, read at an entry: the view's entry at the rectangle's offset plus it. -/
theorem readAt_unit_apply {F : FTy → Type} {n0 n1 r0 r1 : ℕ} {e : EltTy} (v : View sig .tc .vmem ⟨2, ![n0, n1]⟩ e)
    (X : v.ty.Contents (Elt F)) (off : Fin 2 → ℕ) (inb) (o0 o1 : ℕ) (ho : off = ![o0, o1]) (i : Fin r0) (j : Fin r1) (h0 : o0 + i.val < n0)
    (h1 : o1 + j.val < n1) :
    View.readAt (Elt F) v (Rect.unit (s := ⟨2, ![n0, n1]⟩) off ![r0, r1] inb).toLoadRect X (ix2 i j)
      = v.read (Elt F) X (ix2 ⟨o0 + i.val, h0⟩ ⟨o1 + j.val, h1⟩) := by
  subst ho
  rw [View.readAt_apply]
  refine congrArg (v.read (Elt F) X) (funext fun a => Fin.ext ?_)
  match a with
  | ⟨0, _⟩ => simp [Rect.unit]
  | ⟨1, _⟩ => simp [Rect.unit]

section
variable (x0 : Vec Ideal S256x4096 .bf16) (x1 : Vec Ideal S512x512 .i32) (x2 : Vec Ideal S32x512 .bf16) (x3 : Vec Ideal S16x512 .i8)
  (G : Fin 4096 → Fin 32)

/-- The accumulator after the first `n` tiles, from what the buffers hold and the tables of the four chunks. -/
def sums (arg1 : Memref sig .tc .vmem S256x4096 .bf16) (arg2 : Memref sig .tc .vmem S512x512 .i32) (arg7 : Memref sig .tc .vmem S4096x128 .i8)
    (arg8 : Memref sig .tc .vmem S4096x128 .i16) (hi lo : Fin 4 → Vec Ideal S16x128 .bf16) (v : Fin 4 → Vec Ideal S16x128 .i8)
    (X1 : BufTy.Contents (Elt Ideal) arg1.view.ty) (X2 : BufTy.Contents (Elt Ideal) arg2.view.ty) (X7 : BufTy.Contents (Elt Ideal) arg7.view.ty)
    (X8 : BufTy.Contents (Elt Ideal) arg8.view.ty) : (n : ℕ) → n ≤ 16 → FVec Ideal S256x512 .f32
  | 0, _ => broadcast S256x512 (FloatOps.ofBits .f32 0x00000000#32)
  | n + 1, h => tile (sums arg1 arg2 arg7 arg8 hi lo v X1 X2 X7 X8 n (Nat.le_of_succ_le h)) (loadX arg1 X1 ⟨n, h⟩) fun j =>
      chunk nibs (hi j) (lo j) (zeroTable (v j)) (loadQ arg2 X2 ⟨n, h⟩ j) (loadPz arg7 X7 ⟨n, h⟩) (loadPs arg8 X8 ⟨n, h⟩)

/-- It holds the products of these tiles. -/
theorem sums_apply
    (arg1 : Memref sig .tc .vmem S256x4096 .bf16) (arg2 : Memref sig .tc .vmem S512x512 .i32) (arg7 : Memref sig .tc .vmem S4096x128 .i8)
    (arg8 : Memref sig .tc .vmem S4096x128 .i16) (hi lo : Fin 4 → Vec Ideal S16x128 .bf16) (v : Fin 4 → Vec Ideal S16x128 .i8)
    (hhi : ∀ (n : Fin 4) (r : Fin 16) (l : Fin 128), hi n (ix2 r l) = x2 (ix2 ⟨16 + r.val, by omega⟩ ⟨128 * n.val + l.val, by omega⟩))
    (hlo : ∀ (n : Fin 4) (r : Fin 16) (l : Fin 128), lo n (ix2 r l) = x2 (ix2 ⟨r.val, by omega⟩ ⟨128 * n.val + l.val, by omega⟩))
    (hv : ∀ (n : Fin 4) (r : Fin 16) (l : Fin 128), v n (ix2 r l) = x3 (ix2 r ⟨128 * n.val + l.val, by omega⟩))
    (X1 : BufTy.Contents (Elt Ideal) arg1.view.ty) (h1 : arg1.view.read (Elt Ideal) X1 = x0)
    (X2 : BufTy.Contents (Elt Ideal) arg2.view.ty) (h2 : arg2.view.read (Elt Ideal) X2 = x1)
    (X7 : BufTy.Contents (Elt Ideal) arg7.view.ty)
    (h7 : ∀ (k : Fin 4096) (l : Fin 128), arg7.view.read (Elt Ideal) X7 (ix2 k l) = BitVec.ofNat 8 (G k).val)
    (X8 : BufTy.Contents (Elt Ideal) arg8.view.ty)
    (h8 : ∀ (k : Fin 4096) (l : Fin 128), arg8.view.read (Elt Ideal) X8 (ix2 k l) = BitVec.ofNat 16 (257 * (G k).val))
    (m : Fin 256) (o : Fin 512) (n : ℕ) (hn : n ≤ 16) :
    sums arg1 arg2 arg7 arg8 hi lo v X1 X2 X7 X8 n hn (ix2 m o) = partialSum x0 x1 x2 x3 G m o n := by
  induction n with
  | zero =>
    unfold sums partialSum
    pointwise
    exact (Fin.sum_univ_zero _).symm
  | succ n ih =>
    refine (tile_term x0 x1 x2 x3 G ⟨n, hn⟩ _ _ hi lo v _ _ _ ?_ hhi hlo hv ?_ ?_ ?_ m o).trans ?_
    · intro m r
      unfold loadX
      rw [readAt_unit_apply _ _ _ _ 0 (256 * n) rfl m r (by omega) (by omega), h1]
      simp only [Nat.zero_add]
    · intro j a i l
      exact (readAt_unit_apply _ _ _ _ (32 * n + 8 * a.val) (128 * j.val) rfl i l (by omega) (by omega)).trans (by rw [h2])
    · intro a h i l
      unfold loadPz
      rw [readAt_unit_apply _ _ _ _ (256 * n + 64 * a.val + 32 * h.val) 0 rfl i l (by omega) (by omega), h7]
      simp only [Nat.add_assoc]
    · intro a h b i l
      unfold loadPs
      rw [readAt_unit_apply _ _ _ _ (256 * n + 64 * a.val + 32 * h.val + 16 * b.val) 0 rfl i l (by omega) (by omega), h8]
      simp only [Nat.add_assoc]
    · rw [ih (Nat.le_of_succ_le hn)]
      exact (partialSum_succ x0 x1 x2 x3 G m o ⟨n, hn⟩).symm

end

end Cert.Proof
end
-- ==== Proof.Point.lean ====
/- What a grid point leaves in its block of the result, over the ideal floats: the sum of the 4096 products of each entry. -/
module

public import proofs.«01_k».proof.Proof.Fill
public import proofs.«01_k».proof.Proof.Sums

@[expose] public section

set_option maxRecDepth 16384

noncomputable section

namespace Cert.Proof

open Idealize.ShloMosaic Idealize.SL.Sem Cert.KernelIdeal Cert.KernelIdeal.Gen

/-- One store of the whole block, read back: the ideal value stored, since the cast to bf16 changes nothing. -/
theorem read_store (v : View sig .tc .vmem S256x512 .bf16) (f : v.ty.Contents (Elt Ideal)) (inb) (u : FVec Ideal S256x512 .f32) (m : Fin 256)
    (o : Fin 512) :
    v.read (Elt Ideal) (v.writes (Elt Ideal) f [(⟨Rect.unit (s := S256x512) ![0, 0] ![256, 512] inb, truncf .bf16 u bitsLt_bf16_f32⟩
      : View.Piece (Elt Ideal) S256x512 .bf16)]) (ix2 m o) = u (ix2 m o) := by
  refine (View.read_writes_apply_of_pieces v f (fun y => truncf .bf16 u bitsLt_bf16_f32 y) _ ?_ (ix2 m o) ?_).trans ?_
  · intro p hp x
    obtain rfl := List.mem_singleton.1 hp
    refine congrArg (truncf .bf16 u bitsLt_bf16_f32) (funext fun a => Fin.ext ?_)
    match a with
    | ⟨0, _⟩ => exact ((Rect.idx_unit_val (s := S256x512) ![0, 0] ![256, 512] inb x 0).trans (Nat.zero_add (x 0).val)).symm
    | ⟨1, _⟩ => exact ((Rect.idx_unit_val (s := S256x512) ![0, 0] ![256, 512] inb x 1).trans (Nat.zero_add (x 1).val)).symm
  · refine ⟨_, List.mem_singleton.2 rfl, (Rect.mem_set_unit (inb := inb)).2 fun a => ?_⟩
    match a with
    | ⟨0, _⟩ => exact ⟨Nat.zero_le _, by show m.val < 0 + 256; omega⟩
    | ⟨1, _⟩ => exact ⟨Nat.zero_le _, by show o.val < 0 + 512; omega⟩
  · pointwise

theorem hi_inb (n : Fin 4) : ∀ a, (![16, 128 * n.val] : Fin 2 → ℕ) a + S16x128.size a ≤ S32x512.size a := by revert n; decide +kernel
theorem lo_inb (n : Fin 4) : ∀ a, (![0, 128 * n.val] : Fin 2 → ℕ) a + S16x128.size a ≤ S32x512.size a := by revert n; decide +kernel
theorem zp_inb (n : Fin 4) : ∀ a, (![0, 128 * n.val] : Fin 2 → ℕ) a + S16x128.size a ≤ S16x512.size a := by revert n; decide +kernel

section Run
variable (c : Dev nD) (i : grid0.Coords)
    (arg1 : Memref sig .tc .vmem S256x4096 .bf16) (harg1 : arg1.IsWhole) (arg2 : Memref sig .tc .vmem S512x512 .i32) (harg2 : arg2.IsWhole)
    (arg3 : Memref sig .tc .vmem S32x512 .bf16) (harg3 : arg3.IsWhole) (arg4 : Memref sig .tc .vmem S16x512 .i8) (harg4 : arg4.IsWhole)
    (arg5 : Memref sig .tc .vmem S32x128 .i32) (harg5 : arg5.IsWhole) (arg6 : Memref sig .tc .vmem S256x512 .bf16) (harg6 : arg6.IsWhole)
    (arg7 : Memref sig .tc .vmem S4096x128 .i8) (harg7 : arg7.IsWhole) (arg8 : Memref sig .tc .vmem S4096x128 .i16) (harg8 : arg8.IsWhole)
    (x0 : Vec Ideal S256x4096 .bf16) (x1 : Vec Ideal S512x512 .i32) (x2 : Vec Ideal S32x512 .bf16) (x3 : Vec Ideal S16x512 .i8)
    (x4 : Vec Ideal S32x128 .i32) (xs0 : Vec Ideal S4096x128 .i8) (xs1 : Vec Ideal S4096x128 .i16)

/-- The tables of column chunk `n`, as the kernel loads them: scales of groups 16 to 31, of groups 0 to 15, and packed zero points. -/
def loadHi (n : Fin 4) : Vec Ideal S16x128 .bf16 :=
  View.readAt (Elt Ideal) arg3.view (Rect.unit (s := S32x512) ![16, 128 * n.val] S16x128.size (hi_inb n)).toLoadRect (harg3.unread x2)
def loadLo (n : Fin 4) : Vec Ideal S16x128 .bf16 :=
  View.readAt (Elt Ideal) arg3.view (Rect.unit (s := S32x512) ![0, 128 * n.val] S16x128.size (lo_inb n)).toLoadRect (harg3.unread x2)
def loadZp (n : Fin 4) : Vec Ideal S16x128 .i8 :=
  View.readAt (Elt Ideal) arg4.view (Rect.unit (s := S16x512) ![0, 128 * n.val] S16x128.size (zp_inb n)).toLoadRect (harg4.unread x3)

theorem loadHi_apply (n : Fin 4) (r : Fin 16) (l : Fin 128) :
    loadHi arg3 harg3 x2 n (ix2 r l) = x2 (ix2 ⟨16 + r.val, by omega⟩ ⟨128 * n.val + l.val, by omega⟩) := by
  unfold loadHi
  rw [readAt_unit_apply _ _ _ _ 16 (128 * n.val) rfl r l (by omega) (by omega), harg3.read_unread]

theorem loadLo_apply (n : Fin 4) (r : Fin 16) (l : Fin 128) :
    loadLo arg3 harg3 x2 n (ix2 r l) = x2 (ix2 ⟨r.val, by omega⟩ ⟨128 * n.val + l.val, by omega⟩) := by
  unfold loadLo
  rw [readAt_unit_apply _ _ _ _ 0 (128 * n.val) rfl r l (by omega) (by omega), harg3.read_unread]
  simp only [Nat.zero_add]

theorem loadZp_apply (n : Fin 4) (r : Fin 16) (l : Fin 128) :
    loadZp arg4 harg4 x3 n (ix2 r l) = x3 (ix2 r ⟨128 * n.val + l.val, by omega⟩) := by
  unfold loadZp
  rw [readAt_unit_apply _ _ _ _ 0 (128 * n.val) rfl r l (by omega) (by omega), harg4.read_unread]
  simp only [Nat.zero_add]

/-- What the sixteen tiles yield, from what the scratch buffers hold when the first starts. -/
def reduced (X7 : BufTy.Contents (Elt Ideal) arg7.view.ty) (X8 : BufTy.Contents (Elt Ideal) arg8.view.ty) : FVec Ideal S256x512 .f32 :=
  sums arg1 arg2 arg7 arg8 (loadHi arg3 harg3 x2) (loadLo arg3 harg3 x2) (loadZp arg4 harg4 x3) (harg1.unread x0) (harg2.unread x1) X7 X8 16 le_rfl

theorem reduced_apply (X7 : BufTy.Contents (Elt Ideal) arg7.view.ty) (X8 : BufTy.Contents (Elt Ideal) arg8.view.ty) (G : Fin 4096 → Fin 32)
    (h7 : ∀ (k : Fin 4096) (l : Fin 128), arg7.view.read (Elt Ideal) X7 (ix2 k l) = BitVec.ofNat 8 (G k).val)
    (h8 : ∀ (k : Fin 4096) (l : Fin 128), arg8.view.read (Elt Ideal) X8 (ix2 k l) = BitVec.ofNat 16 (257 * (G k).val)) (m : Fin 256) (o : Fin 512) :
    reduced arg1 harg1 arg2 harg2 arg3 harg3 arg4 harg4 arg7 arg8 x0 x1 x2 x3 X7 X8 (ix2 m o)
      = ∑ k : Fin 4096, term x0 x1 x2 x3 G m o k :=
  (sums_apply x0 x1 x2 x3 G arg1 arg2 arg7 arg8
    (loadHi arg3 harg3 x2) (loadLo arg3 harg3 x2) (loadZp arg4 harg4 x3) (loadHi_apply arg3 harg3 x2) (loadLo_apply arg3 harg3 x2)
    (loadZp_apply arg4 harg4 x3) _ (harg1.read_unread _) _ (harg2.read_unread _) X7 h7 X8 h8 m o 16 le_rfl).trans
    (partialSum_all x0 x1 x2 x3 G m o)

/-- A later point stores what the tiles yield over the carried scratch buffers. -/
theorem stores_B (hc0 : ¬cond0_0 i) :
    (kernelRun0_B c i arg1 harg1 arg2 harg2 arg3 harg3 arg4 harg4 arg5 harg5 arg6 harg6 arg7 harg7 arg8 harg8 hc0 x0 x1 x2 x3 x4 xs0 xs1).1
      = [⟨Rect.unit (s := S256x512) ![0, 0] ![256, 512] inb_S256x512_S256x512_0_0,
          truncf .bf16 (reduced arg1 harg1 arg2 harg2 arg3 harg3 arg4 harg4 arg7 arg8 x0 x1 x2 x3
            (harg7.unread xs0) (harg8.unread xs1)) bitsLt_bf16_f32⟩] := rfl

/-- The first point stores what the tiles yield over the scratch buffers it has just filled. -/
theorem stores_A (hc0 : cond0_0 i) :
    (kernelRun0_A c i arg1 harg1 arg2 harg2 arg3 harg3 arg4 harg4 arg5 harg5 arg6 harg6 arg7 harg7 arg8 harg8 hc0 x0 x1 x2 x3 x4).1
      = [⟨Rect.unit (s := S256x512) ![0, 0] ![256, 512] inb_S256x512_S256x512_0_0,
          truncf .bf16 (reduced arg1 harg1 arg2 harg2 arg3 harg3 arg4 harg4 arg7 arg8 x0 x1 x2 x3
            (arg7.view.writes (Elt Ideal) arg7.view.junk (kernelRun0_A c i arg1 harg1 arg2 harg2 arg3 harg3 arg4 harg4 arg5 harg5 arg6 harg6 arg7 harg7 arg8 harg8 hc0 x0 x1 x2 x3 x4).2.1)
            (arg8.view.writes (Elt Ideal) arg8.view.junk (kernelRun0_A c i arg1 harg1 arg2 harg2 arg3 harg3 arg4 harg4 arg5 harg5 arg6 harg6 arg7 harg7 arg8 harg8 hc0 x0 x1 x2 x3 x4).2.2.1)) bitsLt_bf16_f32⟩] := rfl

/-- A later point's block of the result, where the carried scratch buffers hold the groups. -/
theorem out_B_apply (hc0 : ¬cond0_0 i) (G : Fin 4096 → Fin 32)
    (h7 : ∀ (k : Fin 4096) (l : Fin 128), xs0 (ix2 k l) = BitVec.ofNat 8 (G k).val)
    (h8 : ∀ (k : Fin 4096) (l : Fin 128), xs1 (ix2 k l) = BitVec.ofNat 16 (257 * (G k).val)) (m : Fin 256) (o : Fin 512) :
    out0_B_5 c i arg1 harg1 arg2 harg2 arg3 harg3 arg4 harg4 arg5 harg5 arg6 harg6 arg7 harg7 arg8 harg8 hc0 x0 x1 x2 x3 x4 xs0 xs1 (ix2 m o)
      = ∑ k : Fin 4096, term x0 x1 x2 x3 G m o k := by
  unfold out0_B_5
  rw [stores_B, read_store]
  exact reduced_apply _ _ _ _ _ _ _ _ _ _ _ _ _ _ _ _ G (by rw [harg7.read_unread]; exact h7)
    (by rw [harg8.read_unread]; exact h8) m o

/-- The first point's block of the result, where `x4` holds the groups. -/
theorem out_A_apply (hc0 : cond0_0 i) (G : Fin 4096 → Fin 32)
    (hG : ∀ (r : Fin 32) (l : Fin 128), x4 (ix2 r l) = BitVec.ofNat 32 (G ⟨128 * r.val + l.val, by omega⟩).val) (m : Fin 256) (o : Fin 512) :
    out0_A_5 c i arg1 harg1 arg2 harg2 arg3 harg3 arg4 harg4 arg5 harg5 arg6 harg6 arg7 harg7 arg8 harg8 hc0 x0 x1 x2 x3 x4 (ix2 m o)
      = ∑ k : Fin 4096, term x0 x1 x2 x3 G m o k := by
  unfold out0_A_5
  rw [stores_A, read_store]
  exact reduced_apply _ _ _ _ _ _ _ _ _ _ _ _ _ _ _ _ G
    (fun k l => fill8_apply c i arg1 harg1 arg2 harg2 arg3 harg3 arg4 harg4 arg5 harg5 arg6 harg6 arg7 harg7 arg8 harg8 hc0 x0 x1 x2 x3 x4 _ _ G hG k l)
    (fun k l => fill16_apply c i arg1 harg1 arg2 harg2 arg3 harg3 arg4 harg4 arg5 harg5 arg6 harg6 arg7 harg7 arg8 harg8 hc0 x0 x1 x2 x3 x4 _ _ G hG k l)
    m o

end Run

end Cert.Proof
end
-- ==== Proof.Array.lean ====
/- What the result array holds after the run, over the ideal floats, and the groups read off the precondition. -/
module

public import proofs.«01_k».proof.Proof.Blocks
public import proofs.«01_k».proof.Proof.Point
public import proofs.«01_k».proof.Proof.Gen.KernelIdeal.Value

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD) (G : Fin 4096 → Fin 32)

/-- The region's fourth input block holds the groups, 128 to a row. -/
theorem groups_block (hG : ∀ k, argG m c (ix1 k) = BitVec.ofNat 32 (G k).val) (t : Fin cfg0.N) (r : Fin 32) (l : Fin 128) :
    (iblk m c 4 t : Vec Ideal S32x128 .i32) (ix2 r l) = BitVec.ofNat 32 (G ⟨128 * r.val + l.val, by omega⟩).val :=
  (iblk4_apply m c t r l).trans (hG _)

/-- After each point both scratch buffers hold the groups of all rows. -/
theorem scratch_apply (hG : ∀ k, argG m c (ix1 k) = BitVec.ofNat 32 (G k).val) (n : ℕ) (hn : n < cfg0.N) (k : Fin 4096) (l : Fin 128) :
    (outsAt0 m c n hn).2.1 (ix2 k l) = BitVec.ofNat 8 (G k).val
      ∧ (outsAt0 m c n hn).2.2 (ix2 k l) = BitVec.ofNat 16 (257 * (G k).val) := by
  induction n with
  | zero =>
    rw [outsAt0_A m c ⟨0, hn⟩ rfl]
    dsimp only
    unfold sout0_A_0 sout0_A_1
    exact ⟨fill8_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) _
        (iblk m c 0 ⟨0, hn⟩) (iblk m c 1 ⟨0, hn⟩) (iblk m c 2 ⟨0, hn⟩) (iblk m c 3 ⟨0, hn⟩) (iblk m c 4 ⟨0, hn⟩) _ _ G (groups_block m c G hG _) k l,
      fill16_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) _
        (iblk m c 0 ⟨0, hn⟩) (iblk m c 1 ⟨0, hn⟩) (iblk m c 2 ⟨0, hn⟩) (iblk m c 3 ⟨0, hn⟩) (iblk m c 4 ⟨0, hn⟩) _ _ G (groups_block m c G hG _) k l⟩
  | succ n ih =>
    have h14 : n + 1 < 14 := points ⟨n + 1, hn⟩
    rw [outsAt0_B m c ⟨n + 1, hn⟩ (by show ¬(n + 1) % 14 = 0; omega)]
    dsimp only
    unfold sout0_B_0 sout0_B_1
    exact ih _

/-- After each point its block of the result holds the sums of products over the blocks it read. -/
theorem block_apply (hG : ∀ k, argG m c (ix1 k) = BitVec.ofNat 32 (G k).val) (t : Fin cfg0.N) (r : Fin 256) (o : Fin 512) :
    (outsAt0 m c t.val t.isLt).1 (ix2 r o)
      = ∑ k : Fin 4096, term (iblk m c 0 t) (iblk m c 1 t) (iblk m c 2 t) (iblk m c 3 t) G r o k := by
  by_cases h0 : t.val % 14 = 0
  · rw [outsAt0_A m c t h0]
    dsimp only
    exact out_A_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) (iblk m c 4 t) _ G (groups_block m c G hG t) r o
  · rw [outsAt0_B m c t h0]
    dsimp only
    exact out_B_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 _ G (fun k l => (scratch_apply m c G hG _ _ k l).1)
      (fun k l => (scratch_apply m c G hG _ _ k l).2) r o

/-- The result array after the run. -/
abbrev resultArr : Vec Ideal S256x7168 .bf16 := Value.G5 m c

/-- An entry of the result array after the run. -/
theorem array_apply (hG : ∀ k, argG m c (ix1 k) = BitVec.ofNat 32 (G k).val) (r : Fin 256) (o : Fin 7168) :
    resultArr m c (ix2 r o)
      = ∑ k : Fin 4096, argX m c (ix3 r 0 k) * weight (codeOf (argQ m c (ix2 (⟨k.val / 8, by omega⟩ : Fin 512) o)) ⟨k.val % 8, by omega⟩)
          (zeroNib (G k) (argZ m c (ix2 (⟨(G k).val % 16, by omega⟩ : Fin 16) o))) (argS m c (ix2 (G k) o)) := by
  have hp : Value.pt5Of (ix2 r o) = o.val / 512 := by
    show 14 * (r.val / 256 - 0) + 1 * (o.val / 512 - 0) = o.val / 512
    omega
  have hN : o.val / 512 < cfg0.N := by show o.val / 512 < 14; omega
  have hl : Value.loc5Of (ix2 r o) = ix2 r (⟨o.val % 512, by omega⟩ : Fin 512) := by
    funext a
    match a with
    | ⟨0, _⟩ => exact Fin.ext (Nat.mod_eq_of_lt r.isLt)
    | ⟨1, _⟩ => rfl
  have e : resultArr m c (ix2 r o) = (outsAt0 m c (o.val / 512) hN).1 (ix2 r (⟨o.val % 512, by omega⟩ : Fin 512)) := by
    rw [Value.outsAt0_sweep, ← hl]
    show (if h : Value.pt5Of (ix2 r o) < cfg0.N then _ else _) = _
    rw [dif_pos (hp ▸ hN)]
    simp only [hp]
  have ho : 512 * (o.val / 512) + o.val % 512 = o.val := by omega
  rw [e, block_apply m c G hG ⟨o.val / 512, hN⟩]
  refine Finset.sum_congr rfl fun k _ => ?_
  unfold term
  rw [iblk0_apply, iblk1_apply, iblk2_apply, iblk3_apply]
  simp only [ho]

end Cert.Proof
end
-- ==== Proof.Groups.lean ====
/- The precondition: every entry of the groups is one of the 32 groups. -/
module

public import proofs.«01_k».proof.Pre_in_range
public import Idealize.ShloMosaic.Lib.Pointwise

@[expose] public section

noncomputable section

namespace Cert.Proof

open Idealize.ShloMosaic

theorem group_of_word (w : BitVec 32) (h0 : (0#32).sle w = true) (h1 : w.slt 32#32 = true) : ∃ g : Fin 32, w = BitVec.ofNat 32 g.val := by
  simp only [BitVec.sle, BitVec.slt, decide_eq_true_eq] at h0 h1
  have e0 : (0#32).toInt = 0 := rfl
  have e1 : (32#32).toInt = 32 := rfl
  rw [e0] at h0
  rw [e1] at h1
  have hw : (w.toNat : ℤ) = w.toInt := (BitVec.toInt_eq_toNat_of_lt (by
    rw [BitVec.toInt_eq_toNat_cond] at h0
    split at h0
    · assumption
    · have := w.isLt; omega)).symm
  refine ⟨⟨w.toNat, by omega⟩, BitVec.eq_of_toNat_eq ?_⟩
  rw [BitVec.toNat_ofNat, Nat.mod_eq_of_lt w.isLt]

/-- Arrays in range name a group for each row. -/
theorem groups_of_in_range [Cert.Pre_in_range.Facts] {F : FTy → Type} [FloatOps F] (x0 : Vec F Cert.Pre_in_range.S256x1x4096 .bf16)
    (x1 : Vec F Cert.Pre_in_range.S512x7168 .i32) (x2 : Vec F Cert.Pre_in_range.S32x7168 .bf16) (x3 : Vec F Cert.Pre_in_range.S16x7168 .i8)
    (x4 : Vec F Cert.Pre_in_range.S4096 .i32) (h : Cert.Pre_in_range.fn (F := F) x0 x1 x2 x3 x4 = fun _ => 1#1) :
    ∃ G : Fin 4096 → Fin 32, ∀ k, x4 (ix1 k) = BitVec.ofNat 32 (G k).val := by
  have hk : ∀ k : Fin 4096, ∃ g : Fin 32, x4 (ix1 k) = BitVec.ofNat 32 g.val := fun k => by
    have e := congrFun h (ix1 k)
    have e' : IntOp.andi (IntOp.cmpi .sge (x4 (ix1 k)) 0#32) (IntOp.cmpi .slt (x4 (ix1 k)) 32#32) = 1#1 := e
    have a : ∀ p q : BitVec 1, IntOp.andi p q = 1#1 → p = 1#1 ∧ q = 1#1 := by decide
    obtain ⟨p, q⟩ := a _ _ e'
    have b : ∀ t : Bool, BitVec.ofBool t = 1#1 → t = true := by decide
    exact group_of_word _ (b _ p) (b _ q)
  choose G hG using hk
  exact ⟨G, hG⟩

end Cert.Proof
end
-- ==== Proof.Ref.lean ====
/- What the reference computes, over the ideal floats: each row of its one-hot matrix selects the row's group, so its weights are those of the
   formula, and its result is the sum over all rows. -/
module

public import proofs.«01_k».proof.Proof.Gen.ReferenceIdeal.Read
public import proofs.«01_k».proof.Proof.Spec
public import Idealize.ShloMosaic.Lib.Pointwise

@[expose] public section

set_option maxRecDepth 16384

noncomputable section

namespace Cert.Proof

open Idealize.ShloMosaic Idealize.SL.Sem Cert.ReferenceIdeal Cert.ReferenceIdeal.Read

variable (x0 : (⟨S256x1x4096, .bf16⟩ : BufTy).Contents (Elt Ideal)) (x1 : (⟨S512x7168, .i32⟩ : BufTy).Contents (Elt Ideal))
  (x2 : (⟨S32x7168, .bf16⟩ : BufTy).Contents (Elt Ideal)) (x3 : (⟨S16x7168, .i8⟩ : BufTy).Contents (Elt Ideal))
  (x4 : (⟨S4096, .i32⟩ : BufTy).Contents (Elt Ideal))

/-- The table of zero points. -/
theorem zeros_apply (g : Fin 32) (o : Fin 7168) :
    val_main_v6 (F := Ideal) x3 (ix2 g o) = (((zeroNib g (x3 (ix2 (⟨g.val % 16, by omega⟩ : Fin 16) o))).val : ℝ) : EReal) := by
  have word : ∀ z : Fin 16, FloatOps.sitofp (F := Ideal) FTy.bf16 (BitVec.ofNat 32 z.val) = ((z.val : ℝ) : EReal) := by
    intro z
    have : ∀ z : Fin 16, (BitVec.ofNat 32 z.val).toInt = (z.val : ℤ) := by decide
    show (((BitVec.toInt _ : ℤ) : ℝ) : EReal) = _
    rw [this]; rfl
  pointwise [val_main_v6, val_main_v5, val_main_v4, val_main_v2, val_main_v1, val_main_v3, val_main_v0, val_main_c, val_main_c_0]
  by_cases h : g.val < 16
  · have e : g.val % 16 = g.val := by omega
    simp only [dif_pos h, e]
    rw [zeroNib_lo g _ h, word]
  · have e : g.val % 16 = g.val - 16 := by omega
    simp only [dif_neg h, e]
    rw [zeroNib_hi _ g _ h, word]

/-- The one-hot matrix. -/
theorem onehot_apply (k : Fin 4096) (g : Fin 32) :
    val_main_v13 (F := Ideal) x4 (ix2 k g) = if x4 (ix1 k) = BitVec.ofNat 32 g.val then 1 else 0 := by
  pointwise [val_main_v13, val_main_v12, val_main_v11, val_main_v10, val_main_v9, val_main_v8, val_main_v7]
  show (((BitVec.toNat _ : ℕ) : ℝ) : EReal) = _
  by_cases h : x4 (ix1 k) = BitVec.ofNat 32 g.val
  · rw [if_pos h, h]
    simp [IntOp.cmpi]
  · rw [if_neg h]
    simp [IntOp.cmpi, h]

/-- The one-hot matrix times the table: the table's row of the row's group. -/
theorem table_apply (k : Fin 4096) (j : Fin 14336) (g : Fin 32) (hg : x4 (ix1 k) = BitVec.ofNat 32 g.val) :
    val_main_v16 (F := Ideal) x2 x3 x4 (ix2 k j) = val_main_v14 (F := Ideal) x2 x3 (ix2 g j) := by
  pointwise [val_main_v16, val_main_v15]
  rw [Finset.sum_eq_single g]
  · rw [onehot_apply, if_pos hg, one_mul]
  · intro b _ hb
    have hne : ¬ x4 (ix1 k) = BitVec.ofNat 32 b.val := by
      rw [hg]
      intro h
      have := congrArg BitVec.toNat h
      simp only [BitVec.toNat_ofNat] at this
      exact hb (Fin.ext (by omega))
    rw [onehot_apply, if_neg hne, zero_mul]
  · intro h; exact absurd (Finset.mem_univ _) h

/-- The reference's weights. -/
theorem weights_apply (k : Fin 4096) (o : Fin 7168) (g : Fin 32) (hg : x4 (ix1 k) = BitVec.ofNat 32 g.val) :
    val_main_v34 (F := Ideal) x1 x2 x3 x4 (ix2 k o)
      = weight (codeOf (x1 (ix2 (⟨k.val / 8, by omega⟩ : Fin 512) o)) ⟨k.val % 8, by omega⟩)
          (zeroNib g (x3 (ix2 (⟨g.val % 16, by omega⟩ : Fin 16) o))) (x2 (ix2 g o)) := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_c_1,
    val_main_c_2]
  rw [table_apply x2 x3 x4 k _ g hg, table_apply x2 x3 x4 k _ g hg]
  have hs : IntOp.muli 4#32 (BitVec.ofNat 32 (k.val % 8)) = BitVec.ofNat 32 (4 * (k.val % 8)) := by
    have : ∀ n : Fin 8, IntOp.muli 4#32 (BitVec.ofNat 32 n.val) = BitVec.ofNat 32 (4 * n.val) := by decide
    exact this ⟨k.val % 8, by omega⟩
  have hc := andi_shrsi ArithUnit.host (x1 (ix2 (⟨k.val / 8, by omega⟩ : Fin 512) o)) ⟨k.val % 8, by omega⟩
  rw [hs, hc]
  have hl : val_main_v14 (F := Ideal) x2 x3 (ix2 g (⟨o.val, by omega⟩ : Fin 14336)) = x2 (ix2 g o) := by
    pointwise [val_main_v14]
  have hr : val_main_v14 (F := Ideal) x2 x3 (ix2 g (⟨7168 + o.val, by omega⟩ : Fin 14336)) = val_main_v6 (F := Ideal) x3 (ix2 g o) := by
    pointwise [val_main_v14]
  rw [hl, hr, zeros_apply]
  unfold weight
  congr 2
  show (((BitVec.toInt _ : ℤ) : ℝ) : EReal) = _
  have := code_lt (x1 (ix2 (⟨k.val / 8, by omega⟩ : Fin 512) o)) ⟨k.val % 8, by omega⟩
  rw [BitVec.toInt_eq_toNat_of_lt (by omega)]
  rfl

/-- The reference's result: the sum over all rows of the products of `x` and the weights. -/
theorem result_apply (m : Fin 256) (o : Fin 7168) (G : Fin 4096 → Fin 32) (hG : ∀ k, x4 (ix1 k) = BitVec.ofNat 32 (G k).val) :
    val_main_v37 (F := Ideal) x0 x1 x2 x3 x4 (ix2 m o)
      = ∑ k : Fin 4096, x0 (ix3 m 0 k) * weight (codeOf (x1 (ix2 (⟨k.val / 8, by omega⟩ : Fin 512) o)) ⟨k.val % 8, by omega⟩)
          (zeroNib (G k) (x3 (ix2 (⟨(G k).val % 16, by omega⟩ : Fin 16) o))) (x2 (ix2 (G k) o)) := by
  pointwise [val_main_v37, val_main_v36, val_main_v35]
  refine Finset.sum_congr rfl fun k _ => ?_
  rw [weights_apply x1 x2 x3 x4 k o (G k) (hG k)]

end Cert.Proof
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Pre_in_range
public import proofs.«01_k».proof.Proof.Array
public import proofs.«01_k».proof.Proof.Groups
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and has no semaphores to leave nonzero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array is the reference's result, of the same arguments, where every group is in range. -/
theorem results_agree (m : (ℓ : Loc Cert.KernelIdeal.nD Cert.KernelIdeal.τ Cert.KernelIdeal.sig) → Buf (Elt Ideal) ℓ) (c : Dev Cert.KernelIdeal.nD)
    (G : Fin 4096 → Fin 32) (hG : ∀ k, argG m c (ix1 k) = BitVec.ofNat 32 (G k).val) :
    Cert.ReferenceIdeal.Read.val_main_v37 (F := Ideal) (argX m c) (argQ m c) (argS m c) (argZ m c) (argG m c) = resultArr m c := by
  funext i
  obtain ⟨r, o, rfl⟩ : ∃ (r : Fin 256) (o : Fin 7168), i = ix2 r o := ⟨i 0, i 1, by
    funext a
    match a with
    | ⟨0, _⟩ => rfl
    | ⟨1, _⟩ => rfl⟩
  exact (result_apply (argX m c) (argQ m c) (argS m c) (argZ m c) (argG m c) r o G hG).trans (array_apply m c G hG r o).symm

/-- The same, of the reference's own arguments where they are the kernel's. -/
theorem reference_result (m : (ℓ : Loc Cert.KernelIdeal.nD Cert.KernelIdeal.τ Cert.KernelIdeal.sig) → Buf (Elt Ideal) ℓ) (c : Dev Cert.KernelIdeal.nD)
    (hpre : Pre_KernelIdeal_in_range (hPre_in_range := Cert.Pre_in_range.Gen.facts) m)
    (x0 : Vec Ideal Cert.KernelIdeal.S256x1x4096 .bf16) (x1 : Vec Ideal Cert.KernelIdeal.S512x7168 .i32)
    (x2 : Vec Ideal Cert.KernelIdeal.S32x7168 .bf16) (x3 : Vec Ideal Cert.KernelIdeal.S16x7168 .i8) (x4 : Vec Ideal Cert.KernelIdeal.S4096 .i32)
    (h : x0 = argX m c ∧ x1 = argQ m c ∧ x2 = argS m c ∧ x3 = argZ m c ∧ x4 = argG m c) :
    Cert.ReferenceIdeal.Read.val_main_v37 (F := Ideal) x0 x1 x2 x3 x4 = resultArr m c := by
  obtain ⟨rfl, rfl, rfl, rfl, rfl⟩ := h
  obtain ⟨G, hG⟩ := groups_of_in_range (argX m c) (argQ m c) (argS m c) (argZ m c) (argG m c) (hpre c)
  exact results_agree m c G hG

/-- Over the reals kernel and reference compute the same result. -/
theorem algebraic_KernelIdeal_ReferenceIdeal : algebraic_KernelIdeal_ReferenceIdeal_pre_in_range (hPre_in_range := Cert.Pre_in_range.Gen.facts) :=
  fun m ρ m' ρ' hpre hagree => ⟨fun c => Cert.KernelIdeal.Value.G5 m c, Cert.KernelIdeal.Value.run (F := Ideal) m ρ,
    (θ_run Cert.ReferenceIdeal.defs _ _).mono (fun _ h c => ⟨((h c).1.trans (Cert.ReferenceIdeal.Read.val_main_v37_eq _ _ _ _ _)).trans
      (reference_result m c hpre _ _ _ _ _ (hagree c)), (h c).2⟩) (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal⟩

end Cert.Proof

end
